-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x7168 : Shape := ⟨3, ![4, 4096, 7168]⟩
abbrev S1 : Shape := ⟨1, ![1]⟩
abbrev S1x4x4096 : Shape := ⟨3, ![1, 4, 4096]⟩
abbrev S7168 : Shape := ⟨1, ![7168]⟩
abbrev S16384x7168 : Shape := ⟨2, ![16384, 7168]⟩
abbrev S1x7168 : Shape := ⟨2, ![1, 7168]⟩
abbrev S16384x56 : Shape := ⟨2, ![16384, 56]⟩
abbrev S4x4096 : Shape := ⟨2, ![4, 4096]⟩
abbrev S256x7168 : Shape := ⟨2, ![256, 7168]⟩
abbrev S256x56 : Shape := ⟨2, ![256, 56]⟩
abbrev S2x256x128 : Shape := ⟨3, ![2, 256, 128]⟩
abbrev S32x128 : Shape := ⟨2, ![32, 128]⟩
abbrev S32 : Shape := ⟨1, ![32]⟩
abbrev S32x1 : Shape := ⟨2, ![32, 1]⟩
abbrev S1x32x128 : Shape := ⟨3, ![1, 32, 128]⟩
abbrev S4x128 : Shape := ⟨2, ![4, 128]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S1x4x128 : Shape := ⟨3, ![1, 4, 128]⟩
abbrev S1x256 : Shape := ⟨2, ![1, 256]⟩
abbrev S32x256 : Shape := ⟨2, ![32, 256]⟩
abbrev S32x56 : Shape := ⟨2, ![32, 56]⟩

abbrev nBuf : Space → Nat
  | .hbm => 13
  | .vmem => 14
  | .smem => 1
  | _ => 0

abbrev bufTy : (tb : Table) → Fin (tcTables nBuf tb) → BufTy
  | .hbm, ⟨0, _⟩ => ⟨S4x4096x7168, .bf16⟩
  | .hbm, ⟨1, _⟩ => ⟨S1, .f32⟩
  | .hbm, ⟨2, _⟩ => ⟨S1x4x4096, .f32⟩
  | .hbm, ⟨3, _⟩ => ⟨S1x4x4096, .f32⟩
  | .hbm, ⟨4, _⟩ => ⟨S7168, .f32⟩
  | .hbm, ⟨5, _⟩ => ⟨S7168, .f32⟩
  | .hbm, ⟨6, _⟩ => ⟨S16384x7168, .bf16⟩
  | .hbm, ⟨7, _⟩ => ⟨S1x7168, .f32⟩
  | .hbm, ⟨8, _⟩ => ⟨S1x7168, .f32⟩
  | .hbm, ⟨9, _⟩ => ⟨S16384x7168, .fp8e4m3⟩
  | .hbm, ⟨10, _⟩ => ⟨S16384x56, .f32⟩
  | .hbm, ⟨11, _⟩ => ⟨S4x4096, .f32⟩
  | .hbm, ⟨12, _⟩ => ⟨S4x4096, .f32⟩
  | .local _ .vmem, ⟨0, _⟩ => ⟨S256x7168, .bf16⟩
  | .local _ .vmem, ⟨1, _⟩ => ⟨S256x7168, .bf16⟩
  | .local _ .vmem, ⟨2, _⟩ => ⟨S1x4x4096, .f32⟩
  | .local _ .vmem, ⟨3, _⟩ => ⟨S1x4x4096, .f32⟩
  | .local _ .vmem, ⟨4, _⟩ => ⟨S1x7168, .f32⟩
  | .local _ .vmem, ⟨5, _⟩ => ⟨S1x7168, .f32⟩
  | .local _ .vmem, ⟨6, _⟩ => ⟨S256x7168, .fp8e4m3⟩
  | .local _ .vmem, ⟨7, _⟩ => ⟨S256x7168, .fp8e4m3⟩
  | .local _ .vmem, ⟨8, _⟩ => ⟨S256x56, .f32⟩
  | .local _ .vmem, ⟨9, _⟩ => ⟨S256x56, .f32⟩
  | .local _ .vmem, ⟨10, _⟩ => ⟨S4x4096, .f32⟩
  | .local _ .vmem, ⟨11, _⟩ => ⟨S4x4096, .f32⟩
  | .local _ .vmem, ⟨12, _⟩ => ⟨S2x256x128, .f32⟩
  | .local _ .vmem, ⟨13, _⟩ => ⟨S2x256x128, .f32⟩
  | .local _ .smem, ⟨0, _⟩ => ⟨S1, .f32⟩
  | _, _ => ⟨S4x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_10 : BitVec 32 := 0#32
  let c8_i32 : BitVec 32 := 8#32
  let v28 : BitVec 32 := Scalar.addi c0_i32_10 c8_i32
  let c1_i32_11 : BitVec 32 := 1#32
  ⟨c0_i32_10, v28, c1_i32_11⟩
def k0_mult1 (k0_t1 : Fin k0_t1_loop.trips) : BitVec 32 :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  v183
def k0_off1 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v186 : Index := Scalar.indexCast v184
  let c0_80 : Index := 0#32
  ![v186.toNat, 0]
def k0_off2 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v191 : Index := Scalar.indexCast v184
  let c128_81 : Index := 128#32
  ![v191.toNat, 128]
def k0_off3 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v196 : Index := Scalar.indexCast v184
  let c256 : Index := 256#32
  ![v196.toNat, 256]
def k0_off4 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v201 : Index := Scalar.indexCast v184
  let c384 : Index := 384#32
  ![v201.toNat, 384]
def k0_off5 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v206 : Index := Scalar.indexCast v184
  let c512 : Index := 512#32
  ![v206.toNat, 512]
def k0_off6 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v211 : Index := Scalar.indexCast v184
  let c640 : Index := 640#32
  ![v211.toNat, 640]
def k0_off7 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v216 : Index := Scalar.indexCast v184
  let c768 : Index := 768#32
  ![v216.toNat, 768]
def k0_off8 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v221 : Index := Scalar.indexCast v184
  let c896 : Index := 896#32
  ![v221.toNat, 896]
def k0_off9 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v226 : Index := Scalar.indexCast v184
  let c1024 : Index := 1024#32
  ![v226.toNat, 1024]
def k0_off10 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v231 : Index := Scalar.indexCast v184
  let c1152 : Index := 1152#32
  ![v231.toNat, 1152]
def k0_off11 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v236 : Index := Scalar.indexCast v184
  let c1280 : Index := 1280#32
  ![v236.toNat, 1280]
def k0_off12 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v241 : Index := Scalar.indexCast v184
  let c1408 : Index := 1408#32
  ![v241.toNat, 1408]
def k0_off13 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v246 : Index := Scalar.indexCast v184
  let c1536 : Index := 1536#32
  ![v246.toNat, 1536]
def k0_off14 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v251 : Index := Scalar.indexCast v184
  let c1664 : Index := 1664#32
  ![v251.toNat, 1664]
def k0_off15 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v256 : Index := Scalar.indexCast v184
  let c1792 : Index := 1792#32
  ![v256.toNat, 1792]
def k0_off16 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v261 : Index := Scalar.indexCast v184
  let c1920 : Index := 1920#32
  ![v261.toNat, 1920]
def k0_off17 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v266 : Index := Scalar.indexCast v184
  let c2048 : Index := 2048#32
  ![v266.toNat, 2048]
def k0_off18 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v271 : Index := Scalar.indexCast v184
  let c2176 : Index := 2176#32
  ![v271.toNat, 2176]
def k0_off19 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v276 : Index := Scalar.indexCast v184
  let c2304 : Index := 2304#32
  ![v276.toNat, 2304]
def k0_off20 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v281 : Index := Scalar.indexCast v184
  let c2432 : Index := 2432#32
  ![v281.toNat, 2432]
def k0_off21 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v286 : Index := Scalar.indexCast v184
  let c2560 : Index := 2560#32
  ![v286.toNat, 2560]
def k0_off22 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v291 : Index := Scalar.indexCast v184
  let c2688 : Index := 2688#32
  ![v291.toNat, 2688]
def k0_off23 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v296 : Index := Scalar.indexCast v184
  let c2816 : Index := 2816#32
  ![v296.toNat, 2816]
def k0_off24 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v301 : Index := Scalar.indexCast v184
  let c2944 : Index := 2944#32
  ![v301.toNat, 2944]
def k0_off25 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v306 : Index := Scalar.indexCast v184
  let c3072 : Index := 3072#32
  ![v306.toNat, 3072]
def k0_off26 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v311 : Index := Scalar.indexCast v184
  let c3200 : Index := 3200#32
  ![v311.toNat, 3200]
def k0_off27 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v316 : Index := Scalar.indexCast v184
  let c3328 : Index := 3328#32
  ![v316.toNat, 3328]
def k0_off28 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v321 : Index := Scalar.indexCast v184
  let c3456 : Index := 3456#32
  ![v321.toNat, 3456]
def k0_off29 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v326 : Index := Scalar.indexCast v184
  let c3584 : Index := 3584#32
  ![v326.toNat, 3584]
def k0_off30 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v331 : Index := Scalar.indexCast v184
  let c3712 : Index := 3712#32
  ![v331.toNat, 3712]
def k0_off31 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v336 : Index := Scalar.indexCast v184
  let c3840 : Index := 3840#32
  ![v336.toNat, 3840]
def k0_off32 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v341 : Index := Scalar.indexCast v184
  let c3968 : Index := 3968#32
  ![v341.toNat, 3968]
def k0_off33 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v346 : Index := Scalar.indexCast v184
  let c4096 : Index := 4096#32
  ![v346.toNat, 4096]
def k0_off34 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v351 : Index := Scalar.indexCast v184
  let c4224 : Index := 4224#32
  ![v351.toNat, 4224]
def k0_off35 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v356 : Index := Scalar.indexCast v184
  let c4352 : Index := 4352#32
  ![v356.toNat, 4352]
def k0_off36 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v361 : Index := Scalar.indexCast v184
  let c4480 : Index := 4480#32
  ![v361.toNat, 4480]
def k0_off37 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v366 : Index := Scalar.indexCast v184
  let c4608 : Index := 4608#32
  ![v366.toNat, 4608]
def k0_off38 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v371 : Index := Scalar.indexCast v184
  let c4736 : Index := 4736#32
  ![v371.toNat, 4736]
def k0_off39 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v376 : Index := Scalar.indexCast v184
  let c4864 : Index := 4864#32
  ![v376.toNat, 4864]
def k0_off40 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v381 : Index := Scalar.indexCast v184
  let c4992 : Index := 4992#32
  ![v381.toNat, 4992]
def k0_off41 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v386 : Index := Scalar.indexCast v184
  let c5120 : Index := 5120#32
  ![v386.toNat, 5120]
def k0_off42 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v391 : Index := Scalar.indexCast v184
  let c5248 : Index := 5248#32
  ![v391.toNat, 5248]
def k0_off43 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v396 : Index := Scalar.indexCast v184
  let c5376 : Index := 5376#32
  ![v396.toNat, 5376]
def k0_off44 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v401 : Index := Scalar.indexCast v184
  let c5504 : Index := 5504#32
  ![v401.toNat, 5504]
def k0_off45 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v406 : Index := Scalar.indexCast v184
  let c5632 : Index := 5632#32
  ![v406.toNat, 5632]
def k0_off46 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v411 : Index := Scalar.indexCast v184
  let c5760 : Index := 5760#32
  ![v411.toNat, 5760]
def k0_off47 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v416 : Index := Scalar.indexCast v184
  let c5888 : Index := 5888#32
  ![v416.toNat, 5888]
def k0_off48 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v421 : Index := Scalar.indexCast v184
  let c6016 : Index := 6016#32
  ![v421.toNat, 6016]
def k0_off49 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v426 : Index := Scalar.indexCast v184
  let c6144 : Index := 6144#32
  ![v426.toNat, 6144]
def k0_off50 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v431 : Index := Scalar.indexCast v184
  let c6272 : Index := 6272#32
  ![v431.toNat, 6272]
def k0_off51 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v436 : Index := Scalar.indexCast v184
  let c6400 : Index := 6400#32
  ![v436.toNat, 6400]
def k0_off52 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v441 : Index := Scalar.indexCast v184
  let c6528 : Index := 6528#32
  ![v441.toNat, 6528]
def k0_off53 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v446 : Index := Scalar.indexCast v184
  let c6656 : Index := 6656#32
  ![v446.toNat, 6656]
def k0_off54 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v451 : Index := Scalar.indexCast v184
  let c6784 : Index := 6784#32
  ![v451.toNat, 6784]
def k0_off55 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v456 : Index := Scalar.indexCast v184
  let c6912 : Index := 6912#32
  ![v456.toNat, 6912]
def k0_off56 (k0_t1 : Fin k0_t1_loop.trips) : Fin 2 → Nat :=
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v461 : Index := Scalar.indexCast v184
  let c7040 : Index := 7040#32
  ![v461.toNat, 7040]
def k0_off57 (k0_t1 : Fin k0_t1_loop.trips) : Fin 3 → Nat :=
  let c0_140 : Index := 0#32
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v919 : Index := Scalar.indexCast v184
  let c0_141 : Index := 0#32
  ![0, v919.toNat, 0]
def k0_off58 (k0_t1 : Fin k0_t1_loop.trips) : Fin 3 → Nat :=
  let c1_142 : Index := 1#32
  let c0_i32_10 : BitVec 32 := 0#32
  let c1_i32_11 : BitVec 32 := 1#32
  let arg13 : BitVec 32 := Scf.iv c0_i32_10 c1_i32_11 k0_t1
  let c32_i32 : BitVec 32 := 32#32
  let v183 : BitVec 32 := Scalar.muli arg13 c32_i32
  let v184 : BitVec 32 := v183
  let v923 : Index := Scalar.indexCast v184
  let c0_143 : Index := 0#32
  ![1, v923.toNat, 0]
def k0_mult2 (i : grid0.Coords) : BitVec 32 :=
  let arg0 : BitVec 32 := BitVec.ofNat 32 (i 0).val
  let c256_i32 : BitVec 32 := 256#32
  let v0 : BitVec 32 := Scalar.muli arg0 c256_i32
  let c4096_i32_4 : BitVec 32 := 4096#32
  let c0_i32_5 : BitVec 32 := 0#32
  let v18 : BitVec 1 := Scalar.cmpi .eq c4096_i32_4 c0_i32_5
  let c1_i32_6 : BitVec 32 := 1#32
  let v19 : BitVec 32 := Scalar.select v18 c1_i32_6 c4096_i32_4
  let v20 : BitVec 32 := Scalar.remsi v0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c0_i32_13 : BitVec 32 := 0#32
  let v32 : BitVec 32 := Scalar.addi v27 c0_i32_13
  v32
def k0_off59 (i : grid0.Coords) (c0_i32_13 : BitVec 32) : Fin 3 → Nat :=
  let c0_22 : Index := 0#32
  let c0_23 : Index := 0#32
  let arg0 : BitVec 32 := BitVec.ofNat 32 (i 0).val
  let c256_i32 : BitVec 32 := 256#32
  let v0 : BitVec 32 := Scalar.muli arg0 c256_i32
  let c4096_i32_4 : BitVec 32 := 4096#32
  let c0_i32_5 : BitVec 32 := 0#32
  let v18 : BitVec 1 := Scalar.cmpi .eq c4096_i32_4 c0_i32_5
  let c1_i32_6 : BitVec 32 := 1#32
  let v19 : BitVec 32 := Scalar.select v18 c1_i32_6 c4096_i32_4
  let v20 : BitVec 32 := Scalar.remsi v0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let v32 : BitVec 32 := Scalar.addi v27 c0_i32_13
  let v33 : BitVec 32 := v32
  let v47 : Index := Scalar.indexCast v33
  ![0, 0, v47.toNat]
def k0_off60 (i : grid0.Coords) (c0_i32_13 : BitVec 32) : Fin 2 → Nat :=
  let c0_34 : Index := 0#32
  let arg0 : BitVec 32 := BitVec.ofNat 32 (i 0).val
  let c256_i32 : BitVec 32 := 256#32
  let v0 : BitVec 32 := Scalar.muli arg0 c256_i32
  let c4096_i32_4 : BitVec 32 := 4096#32
  let c0_i32_5 : BitVec 32 := 0#32
  let v18 : BitVec 1 := Scalar.cmpi .eq c4096_i32_4 c0_i32_5
  let c1_i32_6 : BitVec 32 := 1#32
  let v19 : BitVec 32 := Scalar.select v18 c1_i32_6 c4096_i32_4
  let v20 : BitVec 32 := Scalar.remsi v0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let v32 : BitVec 32 := Scalar.addi v27 c0_i32_13
  let v33 : BitVec 32 := v32
  let v79 : Index := Scalar.indexCast v33
  ![0, v79.toNat]
def k0_mult3 (i : grid0.Coords) : BitVec 32 :=
  let arg0 : BitVec 32 := BitVec.ofNat 32 (i 0).val
  let c256_i32 : BitVec 32 := 256#32
  let v0 : BitVec 32 := Scalar.muli arg0 c256_i32
  let c4096_i32_4 : BitVec 32 := 4096#32
  let c0_i32_5 : BitVec 32 := 0#32
  let v18 : BitVec 1 := Scalar.cmpi .eq c4096_i32_4 c0_i32_5
  let c1_i32_6 : BitVec 32 := 1#32
  let v19 : BitVec 32 := Scalar.select v18 c1_i32_6 c4096_i32_4
  let v20 : BitVec 32 := Scalar.remsi v0 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c128_i32 : BitVec 32 := 128#32
  let v107 : BitVec 32 := Scalar.addi v27 c128_i32
  v107
@[reducible] def k0_t2_loop : Scf.Loop 32 :=
  let c0_i32_75 : BitVec 32 := 0#32
  let c8_i32_76 : BitVec 32 := 8#32
  let v182 : BitVec 32 := Scalar.addi c0_i32_75 c8_i32_76
  let c1_i32_77 : BitVec 32 := 1#32
  ⟨c0_i32_75, v182, c1_i32_77⟩
def k0_mult4 (k0_t2 : Fin k0_t2_loop.trips) : BitVec 32 :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  v183
def k0_off61 (k0_t2 : Fin k0_t2_loop.trips) : Fin 3 → Nat :=
  let c0_79 : Index := 0#32
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v185 : Index := Scalar.indexCast v184
  let c0_80 : Index := 0#32
  ![0, v185.toNat, 0]
def k0_off62 (k0_t2 : Fin k0_t2_loop.trips) : Fin 3 → Nat :=
  let c1_81 : Index := 1#32
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v188 : Index := Scalar.indexCast v184
  let c0_82 : Index := 0#32
  ![1, v188.toNat, 0]
def k0_off63 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v191 : Index := Scalar.indexCast v184
  let c0_83 : Index := 0#32
  ![v191.toNat, 0]
def k0_off64 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v249 : Index := Scalar.indexCast v184
  let c128_98 : Index := 128#32
  ![v249.toNat, 128]
def k0_off65 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v307 : Index := Scalar.indexCast v184
  let c256 : Index := 256#32
  ![v307.toNat, 256]
def k0_off66 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v365 : Index := Scalar.indexCast v184
  let c384 : Index := 384#32
  ![v365.toNat, 384]
def k0_off67 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v423 : Index := Scalar.indexCast v184
  let c512 : Index := 512#32
  ![v423.toNat, 512]
def k0_off68 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v481 : Index := Scalar.indexCast v184
  let c640 : Index := 640#32
  ![v481.toNat, 640]
def k0_off69 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v539 : Index := Scalar.indexCast v184
  let c768 : Index := 768#32
  ![v539.toNat, 768]
def k0_off70 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v597 : Index := Scalar.indexCast v184
  let c896 : Index := 896#32
  ![v597.toNat, 896]
def k0_off71 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v655 : Index := Scalar.indexCast v184
  let c1024 : Index := 1024#32
  ![v655.toNat, 1024]
def k0_off72 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v713 : Index := Scalar.indexCast v184
  let c1152 : Index := 1152#32
  ![v713.toNat, 1152]
def k0_off73 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v771 : Index := Scalar.indexCast v184
  let c1280 : Index := 1280#32
  ![v771.toNat, 1280]
def k0_off74 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v829 : Index := Scalar.indexCast v184
  let c1408 : Index := 1408#32
  ![v829.toNat, 1408]
def k0_off75 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v887 : Index := Scalar.indexCast v184
  let c1536 : Index := 1536#32
  ![v887.toNat, 1536]
def k0_off76 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v945 : Index := Scalar.indexCast v184
  let c1664 : Index := 1664#32
  ![v945.toNat, 1664]
def k0_off77 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v1003 : Index := Scalar.indexCast v184
  let c1792 : Index := 1792#32
  ![v1003.toNat, 1792]
def k0_off78 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v1061 : Index := Scalar.indexCast v184
  let c1920 : Index := 1920#32
  ![v1061.toNat, 1920]
def k0_off79 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v1119 : Index := Scalar.indexCast v184
  let c2048 : Index := 2048#32
  ![v1119.toNat, 2048]
def k0_off80 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v1177 : Index := Scalar.indexCast v184
  let c2176 : Index := 2176#32
  ![v1177.toNat, 2176]
def k0_off81 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v1235 : Index := Scalar.indexCast v184
  let c2304 : Index := 2304#32
  ![v1235.toNat, 2304]
def k0_off82 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v1293 : Index := Scalar.indexCast v184
  let c2432 : Index := 2432#32
  ![v1293.toNat, 2432]
def k0_off83 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v1351 : Index := Scalar.indexCast v184
  let c2560 : Index := 2560#32
  ![v1351.toNat, 2560]
def k0_off84 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v1409 : Index := Scalar.indexCast v184
  let c2688 : Index := 2688#32
  ![v1409.toNat, 2688]
def k0_off85 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v1467 : Index := Scalar.indexCast v184
  let c2816 : Index := 2816#32
  ![v1467.toNat, 2816]
def k0_off86 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v1525 : Index := Scalar.indexCast v184
  let c2944 : Index := 2944#32
  ![v1525.toNat, 2944]
def k0_off87 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v1583 : Index := Scalar.indexCast v184
  let c3072 : Index := 3072#32
  ![v1583.toNat, 3072]
def k0_off88 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v1641 : Index := Scalar.indexCast v184
  let c3200 : Index := 3200#32
  ![v1641.toNat, 3200]
def k0_off89 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v1699 : Index := Scalar.indexCast v184
  let c3328 : Index := 3328#32
  ![v1699.toNat, 3328]
def k0_off90 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v1757 : Index := Scalar.indexCast v184
  let c3456 : Index := 3456#32
  ![v1757.toNat, 3456]
def k0_off91 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v1815 : Index := Scalar.indexCast v184
  let c3584 : Index := 3584#32
  ![v1815.toNat, 3584]
def k0_off92 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v1873 : Index := Scalar.indexCast v184
  let c3712 : Index := 3712#32
  ![v1873.toNat, 3712]
def k0_off93 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v1931 : Index := Scalar.indexCast v184
  let c3840 : Index := 3840#32
  ![v1931.toNat, 3840]
def k0_off94 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v1989 : Index := Scalar.indexCast v184
  let c3968 : Index := 3968#32
  ![v1989.toNat, 3968]
def k0_off95 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v2047 : Index := Scalar.indexCast v184
  let c4096 : Index := 4096#32
  ![v2047.toNat, 4096]
def k0_off96 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v2105 : Index := Scalar.indexCast v184
  let c4224 : Index := 4224#32
  ![v2105.toNat, 4224]
def k0_off97 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v2163 : Index := Scalar.indexCast v184
  let c4352 : Index := 4352#32
  ![v2163.toNat, 4352]
def k0_off98 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v2221 : Index := Scalar.indexCast v184
  let c4480 : Index := 4480#32
  ![v2221.toNat, 4480]
def k0_off99 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v2279 : Index := Scalar.indexCast v184
  let c4608 : Index := 4608#32
  ![v2279.toNat, 4608]
def k0_off100 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v2337 : Index := Scalar.indexCast v184
  let c4736 : Index := 4736#32
  ![v2337.toNat, 4736]
def k0_off101 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v2395 : Index := Scalar.indexCast v184
  let c4864 : Index := 4864#32
  ![v2395.toNat, 4864]
def k0_off102 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v2453 : Index := Scalar.indexCast v184
  let c4992 : Index := 4992#32
  ![v2453.toNat, 4992]
def k0_off103 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v2511 : Index := Scalar.indexCast v184
  let c5120 : Index := 5120#32
  ![v2511.toNat, 5120]
def k0_off104 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v2569 : Index := Scalar.indexCast v184
  let c5248 : Index := 5248#32
  ![v2569.toNat, 5248]
def k0_off105 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v2627 : Index := Scalar.indexCast v184
  let c5376 : Index := 5376#32
  ![v2627.toNat, 5376]
def k0_off106 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v2685 : Index := Scalar.indexCast v184
  let c5504 : Index := 5504#32
  ![v2685.toNat, 5504]
def k0_off107 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v2743 : Index := Scalar.indexCast v184
  let c5632 : Index := 5632#32
  ![v2743.toNat, 5632]
def k0_off108 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v2801 : Index := Scalar.indexCast v184
  let c5760 : Index := 5760#32
  ![v2801.toNat, 5760]
def k0_off109 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v2859 : Index := Scalar.indexCast v184
  let c5888 : Index := 5888#32
  ![v2859.toNat, 5888]
def k0_off110 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v2917 : Index := Scalar.indexCast v184
  let c6016 : Index := 6016#32
  ![v2917.toNat, 6016]
def k0_off111 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v2975 : Index := Scalar.indexCast v184
  let c6144 : Index := 6144#32
  ![v2975.toNat, 6144]
def k0_off112 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v3033 : Index := Scalar.indexCast v184
  let c6272 : Index := 6272#32
  ![v3033.toNat, 6272]
def k0_off113 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v3091 : Index := Scalar.indexCast v184
  let c6400 : Index := 6400#32
  ![v3091.toNat, 6400]
def k0_off114 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v3149 : Index := Scalar.indexCast v184
  let c6528 : Index := 6528#32
  ![v3149.toNat, 6528]
def k0_off115 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v3207 : Index := Scalar.indexCast v184
  let c6656 : Index := 6656#32
  ![v3207.toNat, 6656]
def k0_off116 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v3265 : Index := Scalar.indexCast v184
  let c6784 : Index := 6784#32
  ![v3265.toNat, 6784]
def k0_off117 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v3323 : Index := Scalar.indexCast v184
  let c6912 : Index := 6912#32
  ![v3323.toNat, 6912]
def k0_off118 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v3381 : Index := Scalar.indexCast v184
  let c7040 : Index := 7040#32
  ![v3381.toNat, 7040]
def k0_off119 (k0_t2 : Fin k0_t2_loop.trips) : Fin 2 → Nat :=
  let c0_i32_75 : BitVec 32 := 0#32
  let c1_i32_77 : BitVec 32 := 1#32
  let arg13 : BitVec 32 := Scf.iv c0_i32_75 c1_i32_77 k0_t2
  let c32_i32 : BitVec 32 := 32#32
  let v183 : BitVec 32 := Scalar.muli arg13 c32_i32
  let v184 : BitVec 32 := v183
  let v3440 : Index := Scalar.indexCast v184
  let c0_1144 : Index := 0#32
  ![v3440.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x7168 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x56 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S4x4096x7168 : Shape := ⟨3, ![4, 4096, 7168]⟩
abbrev S1 : Shape := ⟨1, ![1]⟩
abbrev S1x4x4096 : Shape := ⟨3, ![1, 4, 4096]⟩
abbrev S7168 : Shape := ⟨1, ![7168]⟩
abbrev S16384x7168 : Shape := ⟨2, ![16384, 7168]⟩
abbrev S16384x56 : Shape := ⟨2, ![16384, 56]⟩
abbrev S4x4096 : Shape := ⟨2, ![4, 4096]⟩
abbrev S4x4096x1 : Shape := ⟨3, ![4, 4096, 1]⟩
abbrev S1x1x7168 : Shape := ⟨3, ![1, 1, 7168]⟩
abbrev S4x4096x56x128 : Shape := ⟨4, ![4, 4096, 56, 128]⟩
abbrev S4x4096x56 : Shape := ⟨3, ![4, 4096, 56]⟩
abbrev S4x4096x56x1 : Shape := ⟨4, ![4, 4096, 56, 1]⟩

abbrev nBuf : Space → Nat
  | .hbm => 10
  | .vmem => 9
  | .smem => 1
  | _ => 0

abbrev bufTy : (tb : Table) → Fin (tcTables nBuf tb) → BufTy
  | .hbm, ⟨0, _⟩ => ⟨S4x4096x7168, .bf16⟩
  | .hbm, ⟨1, _⟩ => ⟨S1, .f32⟩
  | .hbm, ⟨2, _⟩ => ⟨S1x4x4096, .f32⟩
  | .hbm, ⟨3, _⟩ => ⟨S1x4x4096, .f32⟩
  | .hbm, ⟨4, _⟩ => ⟨S7168, .f32⟩
  | .hbm, ⟨5, _⟩ => ⟨S7168, .f32⟩
  | .hbm, ⟨6, _⟩ => ⟨S16384x7168, .fp8e4m3⟩
  | .hbm, ⟨7, _⟩ => ⟨S16384x56, .f32⟩
  | .hbm, ⟨8, _⟩ => ⟨S4x4096, .f32⟩
  | .hbm, ⟨9, _⟩ => ⟨S4x4096, .f32⟩
  | .local _ .vmem, ⟨0, _⟩ => ⟨S4x4096x7168, .bf16⟩
  | .local _ .vmem, ⟨1, _⟩ => ⟨S1x4x4096, .f32⟩
  | .local _ .vmem, ⟨2, _⟩ => ⟨S1x4x4096, .f32⟩
  | .local _ .vmem, ⟨3, _⟩ => ⟨S7168, .f32⟩
  | .local _ .vmem, ⟨4, _⟩ => ⟨S7168, .f32⟩
  | .local _ .vmem, ⟨5, _⟩ => ⟨S16384x7168, .fp8e4m3⟩
  | .local _ .vmem, ⟨6, _⟩ => ⟨S16384x56, .f32⟩
  | .local _ .vmem, ⟨7, _⟩ => ⟨S4x4096, .f32⟩
  | .local _ .vmem, ⟨8, _⟩ => ⟨S4x4096, .f32⟩
  | .local _ .smem, ⟨0, _⟩ => ⟨S1, .f32⟩
  | _, _ => ⟨S4x4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4x4096x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x56 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelRun.lean ====
/-
  What one grid point's body does to the buffers it is handed, at any float instance: one symbolic run of the body, in
  which each of the two counted loops is passed by its generated invariant. `KernelBody` restates it on the pipeline's
  buffers.
-/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameBody
public import Idealize.ShloMosaic.Lib.Tactic
public import Idealize.ShloMosaic.Lib.WordCmp

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

/-- The frame kit's algebra. -/
local notation "𝕄" => MT nD τ sig Unit (Elt F) ℕ (UR sig nD τ) ℕ

/-- Where a grid point's half tile of the peer arrays begins: batch row anywhere, lane `256 i + 128 k` modulo the row. -/
theorem off59_eq : ∀ (i : grid0.Coords), k0_off59 i 0#32 = ![0, 0, (256 * (i 0).val) % 4096]
    ∧ k0_off59 i 128#32 = ![0, 0, (256 * (i 0).val) % 4096 + 128] := by decide +kernel

/-- Where a grid point's half tile of the statistics arrays begins. -/
theorem off60_eq : ∀ (i : grid0.Coords), k0_off60 i 0#32 = ![0, (256 * (i 0).val) % 4096]
    ∧ k0_off60 i 128#32 = ![0, (256 * (i 0).val) % 4096 + 128] := by decide +kernel

instance closed59_0 (i : grid0.Coords) : ClosedOff (k0_off59 i 0#32) := ⟨![0, 0, (256 * (i 0).val) % 4096], (off59_eq i).1⟩
instance closed59_1 (i : grid0.Coords) : ClosedOff (k0_off59 i 128#32) := ⟨![0, 0, (256 * (i 0).val) % 4096 + 128], (off59_eq i).2⟩
instance closed60_0 (i : grid0.Coords) : ClosedOff (k0_off60 i 0#32) := ⟨![0, (256 * (i 0).val) % 4096], (off60_eq i).1⟩
instance closed60_1 (i : grid0.Coords) : ClosedOff (k0_off60 i 128#32) := ⟨![0, (256 * (i 0).val) % 4096 + 128], (off60_eq i).2⟩

/-- The body on whole memrefs: the six inputs at `X1 … X6`, the four results and the two scratch buffers at `g7 … g12`. It
    ends with the inputs as they were, each result written with the pieces the run finds, the scratch at some contents. -/
@[irreducible] def kernelRun (c : Dev nD) (i : grid0.Coords)
    (arg1 : Memref sig .tc .smem S1 .f32) (harg1 : arg1.IsWhole)
    (arg2 : Memref sig .tc .vmem S256x7168 .bf16) (harg2 : arg2.IsWhole)
    (arg3 : Memref sig .tc .vmem S1x4x4096 .f32) (harg3 : arg3.IsWhole)
    (arg4 : Memref sig .tc .vmem S1x4x4096 .f32) (harg4 : arg4.IsWhole)
    (arg5 : Memref sig .tc .vmem S1x7168 .f32) (harg5 : arg5.IsWhole)
    (arg6 : Memref sig .tc .vmem S1x7168 .f32) (harg6 : arg6.IsWhole)
    (arg7 : Memref sig .tc .vmem S256x7168 .fp8e4m3) (harg7 : arg7.IsWhole)
    (arg8 : Memref sig .tc .vmem S256x56 .f32) (harg8 : arg8.IsWhole)
    (arg9 : Memref sig .tc .vmem S4x4096 .f32) (harg9 : arg9.IsWhole)
    (arg10 : Memref sig .tc .vmem S4x4096 .f32) (harg10 : arg10.IsWhole)
    (arg11 : Memref sig .tc .vmem S2x256x128 .f32) (harg11 : arg11.IsWhole)
    (arg12 : Memref sig .tc .vmem S2x256x128 .f32) (harg12 : arg12.IsWhole)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
    (g9 : BufTy.Contents (Elt F) arg9.view.ty) (g10 : BufTy.Contents (Elt F) arg10.view.ty) (g11 : BufTy.Contents (Elt F) arg11.view.ty) (g12 : BufTy.Contents (Elt F) arg12.view.ty) :
    Σ' (L7 : List (View.Piece (Elt F) S256x7168 .fp8e4m3)) (L8 : List (View.Piece (Elt F) S256x56 .f32)) (L9 : List (View.Piece (Elt F) S4x4096 .f32)),
      { L10 : List (View.Piece (Elt F) S4x4096 .f32) //
        ∀ (E : Set ℕ) (g7 : BufTy.Contents (Elt F) arg7.view.ty) (g8 : BufTy.Contents (Elt F) arg8.view.ty),
        (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12)) : sProp 𝕄)
        ⊢ wp frame (wpE (defs₀ (F := F)) Variants.none (c : Thread nD τ) none) E
            (cc0_ln_merge_quant (F := F) i arg1 harg1 arg2 harg2 arg3 harg3 arg4 harg4 arg5 harg5 arg6 harg6 arg7 harg7 arg8 harg8 arg9 harg9 arg10 harg10 arg11 harg11 arg12 harg12)
            (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} (arg7.view.writes (Elt F) g7 L7)) ∗ (arg8.view.loc (c : Thread nD τ) ↦[arg8.view.set]{fullShare} (arg8.view.writes (Elt F) g8 L8)) ∗ (arg9.view.loc (c : Thread nD τ) ↦[arg9.view.set]{fullShare} (arg9.view.writes (Elt F) g9 L9)) ∗ (arg10.view.loc (c : Thread nD τ) ↦[arg10.view.set]{fullShare} (arg10.view.writes (Elt F) g10 L10)) ∗ (∃ f, (arg11.view.loc (c : Thread nD τ) ↦[arg11.view.set]{fullShare} f)) ∗ (∃ f, (arg12.view.loc (c : Thread nD τ) ↦[arg12.view.set]{fullShare} f)))) } := by
  refine ⟨?_, ?_, ?_, ?_, fun E g7 g8 => ?run⟩
  case run =>
    simp only [cc0_ln_merge_quant_eq_skeleton]; unfold cc0_ln_merge_quant_skel
    iintro ⟨H1, H2, H3, H4, H5, H6, H7, H8, H9, H10, H11, H12⟩
    sl_exec
    sl_step
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    iexists _; iexact H12

end Cert.Kernel.Hand

end
-- ==== Proof.KernelBody.lean ====
/-
  The kernel's pipeline at any float instance: what its body may leave in each window's buffer, the body's obligation, the
  run of the whole program, and its frame. The inputs stay as found; each output is left at the pieces the run found,
  written over what the buffer held. The two statistics windows are one block each over the whole grid and read back what
  earlier points stored, so the data are a relation between what a point found and what it leaves.
-/
module

public import proofs.«01_k».proof.Proof.Gen.Kernel.Launch
public import proofs.«01_k».proof.Proof.KernelRun
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameBody
public import Idealize.ShloMosaic.Lib.Tactic
public import Idealize.ShloMosaic.Lib.WordCmp

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

/-- The frame kit's algebra. -/
local notation "𝕄" => MT nD τ sig Unit (Elt F) ℕ (UR sig nD τ) ℕ

variable (m : (ℓ : Loc nD τ sig) → Buf (Elt F) ℓ) (ρ : Dev nD → PrngReg)

/-- The run of point `t`'s body on the pipeline's buffers: the inputs at their blocks, the two statistics buffers at `Y8`
    and `Y9`, the scratch at `g11` and `g12`. -/
abbrev runAt (c : Dev nD) (t : Fin cfg0.N) (Y8 Y9 : Vec F S4x4096 .f32)
    (g11 : BufTy.Contents (Elt F) (Memref.whole cc0_scratch0).view.ty) (g12 : BufTy.Contents (Elt F) (Memref.whole cc0_scratch1).view.ty) :=
  kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _)
    ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t))
    ((hstage0_8 ((cfg0.slots t 8).cast nbuf0_8)).unread (Y8)) ((hstage0_9 ((cfg0.slots t 9).cast nbuf0_9)).unread (Y9)) g11 g12

/-- What point `t` may leave in the codes' buffer. -/
def after6 (c : Dev nD) (t : Fin cfg0.N) (Y X : Vec F S256x7168 .fp8e4m3) : Prop :=
  ∃ Y8 Y9 g11 g12, X = (win0_6.stage (cfg0.slots t 6)).view.read (Elt F) ((win0_6.stage (cfg0.slots t 6)).view.writes (Elt F) ((hstage0_6 ((cfg0.slots t 6).cast nbuf0_6)).unread (Y)) (runAt m c t Y8 Y9 g11 g12).1)

/-- What point `t` may leave in the scales' buffer. -/
def after7 (c : Dev nD) (t : Fin cfg0.N) (Y X : Vec F S256x56 .f32) : Prop :=
  ∃ Y8 Y9 g11 g12, X = (win0_7.stage (cfg0.slots t 7)).view.read (Elt F) ((win0_7.stage (cfg0.slots t 7)).view.writes (Elt F) ((hstage0_7 ((cfg0.slots t 7).cast nbuf0_7)).unread (Y)) (runAt m c t Y8 Y9 g11 g12).2.1)

/-- What point `t` may leave in the means' buffer. -/
def after8 (c : Dev nD) (t : Fin cfg0.N) (Y X : Vec F S4x4096 .f32) : Prop :=
  ∃ Y9 g11 g12, X = (win0_8.stage (cfg0.slots t 8)).view.read (Elt F) ((win0_8.stage (cfg0.slots t 8)).view.writes (Elt F) ((hstage0_8 ((cfg0.slots t 8).cast nbuf0_8)).unread (Y)) (runAt m c t Y Y9 g11 g12).2.2.1)

/-- What point `t` may leave in the reciprocal deviations' buffer. -/
def after9 (c : Dev nD) (t : Fin cfg0.N) (Y X : Vec F S4x4096 .f32) : Prop :=
  ∃ Y8 g11 g12, X = (win0_9.stage (cfg0.slots t 9)).view.read (Elt F) ((win0_9.stage (cfg0.slots t 9)).view.writes (Elt F) ((hstage0_9 ((cfg0.slots t 9).cast nbuf0_9)).unread (Y)) (runAt m c t Y8 Y g11 g12).2.2.2.1)

/-- The pipeline's proof data on core `c`: the arrays as the region finds them, the relations above, nothing owed. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => after6 m c t
    | ⟨7, _⟩ => after7 m c t
    | ⟨8, _⟩ => after8 m c t
    | ⟨9, _⟩ => after9 m c t
  Φ _ := Pipeline.ΦA spec0 c
  q _ := fullShare
  owed _ := 0

theorem A_eq (c : Dev nD) (w : Fin cfg0.W) : (rdat m c).A w = V m c (Pipeline.arrRef spec0 w) := by dsimp only [rdat]
theorem finds0_0 (c : Dev nD) (t : Fin cfg0.N) (Y) (h : (rdat m c).Finds 0 t Y) : Y = iblk m c 0 t := by
  obtain ⟨d, rfl⟩ := (rdat m c).finds_in_eq_fetched 0 rfl (fun _ _ _ => rfl) (fun t Y X h => h) t Y h
  rfl
theorem finds0_1 (c : Dev nD) (t : Fin cfg0.N) (Y) (h : (rdat m c).Finds 1 t Y) : Y = iblk m c 1 t := by
  obtain ⟨d, rfl⟩ := (rdat m c).finds_in_eq_fetched 1 rfl (fun _ _ _ => rfl) (fun t Y X h => h) t Y h
  rfl
theorem finds0_2 (c : Dev nD) (t : Fin cfg0.N) (Y) (h : (rdat m c).Finds 2 t Y) : Y = iblk m c 2 t := by
  obtain ⟨d, rfl⟩ := (rdat m c).finds_in_eq_fetched 2 rfl (fun _ _ _ => rfl) (fun t Y X h => h) t Y h
  rfl
theorem finds0_3 (c : Dev nD) (t : Fin cfg0.N) (Y) (h : (rdat m c).Finds 3 t Y) : Y = iblk m c 3 t := by
  obtain ⟨d, rfl⟩ := (rdat m c).finds_in_eq_fetched 3 rfl (fun _ _ _ => rfl) (fun t Y X h => h) t Y h
  rfl
theorem finds0_4 (c : Dev nD) (t : Fin cfg0.N) (Y) (h : (rdat m c).Finds 4 t Y) : Y = iblk m c 4 t := by
  obtain ⟨d, rfl⟩ := (rdat m c).finds_in_eq_fetched 4 rfl (fun _ _ _ => rfl) (fun t Y X h => h) t Y h
  rfl
theorem finds0_5 (c : Dev nD) (t : Fin cfg0.N) (Y) (h : (rdat m c).Finds 5 t Y) : Y = iblk m c 5 t := by
  obtain ⟨d, rfl⟩ := (rdat m c).finds_in_eq_fetched 5 rfl (fun _ _ _ => rfl) (fun t Y X h => h) t Y h
  rfl

theorem PhiA0_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)) ∗ ∃ r, prngReg c r) := by
  unfold Pipeline.ΦA
  rw [scopedRest0_eq]
  simp only [owns_whole]; try rfl

theorem sound_body (c : Dev nD) (t : Fin cfg0.N) (Y6 : Vec F S256x7168 .fp8e4m3) (Y7 : Vec F S256x56 .f32) (Y8 : Vec F S4x4096 .f32) (Y9 : Vec F S4x4096 .f32) :
    (iprop(Pipeline.ΦA spec0 c ∗ (rdat m c).owesAt () t.castSucc ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (Y6) ∗ owns (c : Thread nD τ) (st0_7 t) fullShare (Y7) ∗ owns (c : Thread nD τ) (st0_8 t) fullShare (Y8) ∗ owns (c : Thread nD τ) (st0_9 t) fullShare (Y9)) : sProp 𝕄)
    ⊢ wp frame (wpE (defs₀ (F := F)) Variants.none c none) Set.univ (bodyAt0 t)
      (fun _ => iprop(Pipeline.ΦA spec0 c ∗ (rdat m c).owesAt () t.succ ∗ (∃ X, ⌜X = iblk m c 0 t⌝ ∗ owns (c : Thread nD τ) (st0_0 t) fullShare (X)) ∗ (∃ X, ⌜X = iblk m c 1 t⌝ ∗ owns (c : Thread nD τ) (st0_1 t) fullShare (X)) ∗ (∃ X, ⌜X = iblk m c 2 t⌝ ∗ owns (c : Thread nD τ) (st0_2 t) fullShare (X)) ∗ (∃ X, ⌜X = iblk m c 3 t⌝ ∗ owns (c : Thread nD τ) (st0_3 t) fullShare (X)) ∗ (∃ X, ⌜X = iblk m c 4 t⌝ ∗ owns (c : Thread nD τ) (st0_4 t) fullShare (X)) ∗ (∃ X, ⌜X = iblk m c 5 t⌝ ∗ owns (c : Thread nD τ) (st0_5 t) fullShare (X)) ∗ (∃ X, ⌜after6 m c t Y6 X⌝ ∗ owns (c : Thread nD τ) (st0_6 t) fullShare (X)) ∗ (∃ X, ⌜after7 m c t Y7 X⌝ ∗ owns (c : Thread nD τ) (st0_7 t) fullShare (X)) ∗ (∃ X, ⌜after8 m c t Y8 X⌝ ∗ owns (c : Thread nD τ) (st0_8 t) fullShare (X)) ∗ (∃ X, ⌜after9 m c t Y9 X⌝ ∗ owns (c : Thread nD τ) (st0_9 t) fullShare (X)))) := by
  rw [PhiA0_eq]
  unfold bodyAt0
  unfold owns
  iintro ⟨⟨⟨⟨%d11, %f11, -, S11⟩, ⟨%d12, %f12, -, S12⟩⟩, HP⟩, HW, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩
  obtain rfl := (hstage0_0 ((cfg0.slots t 0).cast nbuf0_0)).eq_unread e0
  obtain rfl := (hstage0_1 ((cfg0.slots t 1).cast nbuf0_1)).eq_unread e1
  obtain rfl := (hstage0_2 ((cfg0.slots t 2).cast nbuf0_2)).eq_unread e2
  obtain rfl := (hstage0_3 ((cfg0.slots t 3).cast nbuf0_3)).eq_unread e3
  obtain rfl := (hstage0_4 ((cfg0.slots t 4).cast nbuf0_4)).eq_unread e4
  obtain rfl := (hstage0_5 ((cfg0.slots t 5).cast nbuf0_5)).eq_unread e5
  obtain rfl := (hstage0_6 ((cfg0.slots t 6).cast nbuf0_6)).eq_unread e6
  obtain rfl := (hstage0_7 ((cfg0.slots t 7).cast nbuf0_7)).eq_unread e7
  obtain rfl := (hstage0_8 ((cfg0.slots t 8).cast nbuf0_8)).eq_unread e8
  obtain rfl := (hstage0_9 ((cfg0.slots t 9).cast nbuf0_9)).eq_unread e9
  iapply (wp_wand_r Idealize.ShloMosaic.frame (wpE (defs₀ (F := F)) Variants.none c none) Set.univ)
  isplitl [S11 S12 H0 H1 H2 H3 H4 H5 H6 H7 H8 H9]
  · iapply ((runAt m c t Y8 Y9 f11 f12).2.2.2.2 Set.univ ((hstage0_6 ((cfg0.slots t 6).cast nbuf0_6)).unread (Y6)) ((hstage0_7 ((cfg0.slots t 7).cast nbuf0_7)).unread (Y7)))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S11]; · iexact S11
    iexact S12
  iintro %u ⟨H0, H1, H2, H3, H4, H5, H6, H7, H8, H9, ⟨%x11, S11⟩, ⟨%x12, S12⟩⟩
  isplitl [S11 S12 HP]
  · isplitl [S11 S12]
    · isplitl [S11]
      · iexists _, _; isplitr; swap; · iexact S11
        ipureintro; rfl
      · iexists _, _; isplitr; swap; · iexact S12
        ipureintro; rfl
    iexact HP
  isplitl [HW]; · iexact HW
  isplitl [H0]
  · iexists _; isplitr; · ipureintro; rfl
    iexists _; isplitr; swap; · iexact H0
    ipureintro; exact (hstage0_0 _).read_unread _
  isplitl [H1]
  · iexists _; isplitr; · ipureintro; rfl
    iexists _; isplitr; swap; · iexact H1
    ipureintro; exact (hstage0_1 _).read_unread _
  isplitl [H2]
  · iexists _; isplitr; · ipureintro; rfl
    iexists _; isplitr; swap; · iexact H2
    ipureintro; exact (hstage0_2 _).read_unread _
  isplitl [H3]
  · iexists _; isplitr; · ipureintro; rfl
    iexists _; isplitr; swap; · iexact H3
    ipureintro; exact (hstage0_3 _).read_unread _
  isplitl [H4]
  · iexists _; isplitr; · ipureintro; rfl
    iexists _; isplitr; swap; · iexact H4
    ipureintro; exact (hstage0_4 _).read_unread _
  isplitl [H5]
  · iexists _; isplitr; · ipureintro; rfl
    iexists _; isplitr; swap; · iexact H5
    ipureintro; exact (hstage0_5 _).read_unread _
  isplitl [H6]
  · iexists _; isplitr; swap
    · iexists _; isplitr; swap; · iexact H6
      ipureintro; rfl
    ipureintro; exact ⟨Y8, Y9, f11, f12, rfl⟩
  isplitl [H7]
  · iexists _; isplitr; swap
    · iexists _; isplitr; swap; · iexact H7
      ipureintro; rfl
    ipureintro; exact ⟨Y8, Y9, f11, f12, rfl⟩
  isplitl [H8]
  · iexists _; isplitr; swap
    · iexists _; isplitr; swap; · iexact H8
      ipureintro; rfl
    ipureintro; exact ⟨Y9, f11, f12, rfl⟩
  iexists _; isplitr; swap
  · iexists _; isplitr; swap; · iexact H9
    ipureintro; rfl
  ipureintro; exact ⟨Y8, f11, f12, rfl⟩

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  have h0 := finds0_0 m c t _ (hY 0)
  have h1 := finds0_1 m c t _ (hY 1)
  have h2 := finds0_2 m c t _ (hY 2)
  have h3 := finds0_3 m c t _ (hY 3)
  have h4 := finds0_4 m c t _ (hY 4)
  have h5 := finds0_5 m c t _ (hY 5)
  rw [h0, h1, h2, h3, h4, h5]
  exact triple_restated (sound_body m c t (Y 6) (Y 7) (Y 8) (Y 9)) rfl .rfl fun _ => .rfl

/-! ## The run and the frame -/

set_option backward.isDefEq.respectTransparency.types false in
/-- From any memory with zero counters every weakly fair execution ends in a state the relations describe, every counter
    zero. -/
theorem run_main : θ_run defs (onTc (τ := τ) (main (F := F))) (s₀ m ρ)
    (fun r => RDat.FramePost cfg0 (rdat m) (V m) r ∧ r.2.sem = fun _ => 0) :=
  Pipeline.RDat.θ_run_frame (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m) (hΦ := fun _ _ => rfl)

/-- The frame of one final state: the arguments as launched. -/
theorem args_of_post (r : PUnit × MemSt nD τ sig (Elt F)) (h : RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
      (h.arr_in c 0 rfl).trans ((A_eq m c 0).trans (V_main_arg1 m c)),
      (h.arr_in c 2 rfl).trans ((A_eq m c 2).trans (V_main_arg2 m c)),
      (h.arr_in c 3 rfl).trans ((A_eq m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩

/-- THE FRAME, at any float instance: the program ends, its arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_of_post m r h.1, h.2⟩) (run_main m ρ)

end Cert.Kernel.Hand

end
-- ==== Proof.KernelIdealRun.lean ====
/-
  What one grid point's body does to the buffers it is handed, at any float instance: one symbolic run of the body, in
  which each of the two counted loops is passed by its generated invariant. `KernelIdealBody` restates it on the pipeline's
  buffers.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

/-- The frame kit's algebra. -/
local notation "𝕄" => MT nD τ sig Unit (Elt F) ℕ (UR sig nD τ) ℕ

/-- Where a grid point's half tile of the peer arrays begins: batch row anywhere, lane `256 i + 128 k` modulo the row. -/
theorem off59_eq : ∀ (i : grid0.Coords), k0_off59 i 0#32 = ![0, 0, (256 * (i 0).val) % 4096]
    ∧ k0_off59 i 128#32 = ![0, 0, (256 * (i 0).val) % 4096 + 128] := by decide +kernel

/-- Where a grid point's half tile of the statistics arrays begins. -/
theorem off60_eq : ∀ (i : grid0.Coords), k0_off60 i 0#32 = ![0, (256 * (i 0).val) % 4096]
    ∧ k0_off60 i 128#32 = ![0, (256 * (i 0).val) % 4096 + 128] := by decide +kernel

instance closed59_0 (i : grid0.Coords) : ClosedOff (k0_off59 i 0#32) := ⟨![0, 0, (256 * (i 0).val) % 4096], (off59_eq i).1⟩
instance closed59_1 (i : grid0.Coords) : ClosedOff (k0_off59 i 128#32) := ⟨![0, 0, (256 * (i 0).val) % 4096 + 128], (off59_eq i).2⟩
instance closed60_0 (i : grid0.Coords) : ClosedOff (k0_off60 i 0#32) := ⟨![0, (256 * (i 0).val) % 4096], (off60_eq i).1⟩
instance closed60_1 (i : grid0.Coords) : ClosedOff (k0_off60 i 128#32) := ⟨![0, (256 * (i 0).val) % 4096 + 128], (off60_eq i).2⟩

/-- The body on whole memrefs: the six inputs at `X1 … X6`, the four results and the two scratch buffers at `g7 … g12`. It
    ends with the inputs as they were, each result written with the pieces the run finds, the scratch at some contents. -/
@[irreducible] def kernelRun (c : Dev nD) (i : grid0.Coords)
    (arg1 : Memref sig .tc .smem S1 .f32) (harg1 : arg1.IsWhole)
    (arg2 : Memref sig .tc .vmem S256x7168 .bf16) (harg2 : arg2.IsWhole)
    (arg3 : Memref sig .tc .vmem S1x4x4096 .f32) (harg3 : arg3.IsWhole)
    (arg4 : Memref sig .tc .vmem S1x4x4096 .f32) (harg4 : arg4.IsWhole)
    (arg5 : Memref sig .tc .vmem S1x7168 .f32) (harg5 : arg5.IsWhole)
    (arg6 : Memref sig .tc .vmem S1x7168 .f32) (harg6 : arg6.IsWhole)
    (arg7 : Memref sig .tc .vmem S256x7168 .fp8e4m3) (harg7 : arg7.IsWhole)
    (arg8 : Memref sig .tc .vmem S256x56 .f32) (harg8 : arg8.IsWhole)
    (arg9 : Memref sig .tc .vmem S4x4096 .f32) (harg9 : arg9.IsWhole)
    (arg10 : Memref sig .tc .vmem S4x4096 .f32) (harg10 : arg10.IsWhole)
    (arg11 : Memref sig .tc .vmem S2x256x128 .f32) (harg11 : arg11.IsWhole)
    (arg12 : Memref sig .tc .vmem S2x256x128 .f32) (harg12 : arg12.IsWhole)
    (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
    (g9 : BufTy.Contents (Elt F) arg9.view.ty) (g10 : BufTy.Contents (Elt F) arg10.view.ty) (g11 : BufTy.Contents (Elt F) arg11.view.ty) (g12 : BufTy.Contents (Elt F) arg12.view.ty) :
    Σ' (L7 : List (View.Piece (Elt F) S256x7168 .fp8e4m3)) (L8 : List (View.Piece (Elt F) S256x56 .f32)) (L9 : List (View.Piece (Elt F) S4x4096 .f32)),
      { L10 : List (View.Piece (Elt F) S4x4096 .f32) //
        ∀ (E : Set ℕ) (g7 : BufTy.Contents (Elt F) arg7.view.ty) (g8 : BufTy.Contents (Elt F) arg8.view.ty),
        (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12)) : sProp 𝕄)
        ⊢ wp frame (wpE (defs₀ (F := F)) Variants.none (c : Thread nD τ) none) E
            (cc0_ln_merge_quant (F := F) i arg1 harg1 arg2 harg2 arg3 harg3 arg4 harg4 arg5 harg5 arg6 harg6 arg7 harg7 arg8 harg8 arg9 harg9 arg10 harg10 arg11 harg11 arg12 harg12)
            (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} (arg7.view.writes (Elt F) g7 L7)) ∗ (arg8.view.loc (c : Thread nD τ) ↦[arg8.view.set]{fullShare} (arg8.view.writes (Elt F) g8 L8)) ∗ (arg9.view.loc (c : Thread nD τ) ↦[arg9.view.set]{fullShare} (arg9.view.writes (Elt F) g9 L9)) ∗ (arg10.view.loc (c : Thread nD τ) ↦[arg10.view.set]{fullShare} (arg10.view.writes (Elt F) g10 L10)) ∗ (∃ f, (arg11.view.loc (c : Thread nD τ) ↦[arg11.view.set]{fullShare} f)) ∗ (∃ f, (arg12.view.loc (c : Thread nD τ) ↦[arg12.view.set]{fullShare} f)))) } := by
  refine ⟨?_, ?_, ?_, ?_, fun E g7 g8 => ?run⟩
  case run =>
    simp only [cc0_ln_merge_quant_eq_skeleton]; unfold cc0_ln_merge_quant_skel
    iintro ⟨H1, H2, H3, H4, H5, H6, H7, H8, H9, H10, H11, H12⟩
    sl_exec
    sl_step
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    iexists _; iexact H12

end Cert.KernelIdeal.Hand

end
-- ==== Proof.KernelIdealBody.lean ====
/-
  The kernel's pipeline at any float instance: what its body may leave in each window's buffer, the body's obligation, the
  run of the whole program, and its frame. The inputs stay as found; each output is left at the pieces the run found,
  written over what the buffer held. The two statistics windows are one block each over the whole grid and read back what
  earlier points stored, so the data are a relation between what a point found and what it leaves.
-/
module

public import proofs.«01_k».proof.Proof.Gen.KernelIdeal.Launch
public import proofs.«01_k».proof.Proof.KernelIdealRun
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

/-- The frame kit's algebra. -/
local notation "𝕄" => MT nD τ sig Unit (Elt F) ℕ (UR sig nD τ) ℕ

variable (m : (ℓ : Loc nD τ sig) → Buf (Elt F) ℓ) (ρ : Dev nD → PrngReg)

/-- The run of point `t`'s body on the pipeline's buffers: the inputs at their blocks, the two statistics buffers at `Y8`
    and `Y9`, the scratch at `g11` and `g12`. -/
abbrev runAt (c : Dev nD) (t : Fin cfg0.N) (Y8 Y9 : Vec F S4x4096 .f32)
    (g11 : BufTy.Contents (Elt F) (Memref.whole cc0_scratch0).view.ty) (g12 : BufTy.Contents (Elt F) (Memref.whole cc0_scratch1).view.ty) :=
  kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _)
    ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t))
    ((hstage0_8 ((cfg0.slots t 8).cast nbuf0_8)).unread (Y8)) ((hstage0_9 ((cfg0.slots t 9).cast nbuf0_9)).unread (Y9)) g11 g12

/-- What point `t` may leave in the codes' buffer. -/
def after6 (c : Dev nD) (t : Fin cfg0.N) (Y X : Vec F S256x7168 .fp8e4m3) : Prop :=
  ∃ Y8 Y9 g11 g12, X = (win0_6.stage (cfg0.slots t 6)).view.read (Elt F) ((win0_6.stage (cfg0.slots t 6)).view.writes (Elt F) ((hstage0_6 ((cfg0.slots t 6).cast nbuf0_6)).unread (Y)) (runAt m c t Y8 Y9 g11 g12).1)

/-- What point `t` may leave in the scales' buffer. -/
def after7 (c : Dev nD) (t : Fin cfg0.N) (Y X : Vec F S256x56 .f32) : Prop :=
  ∃ Y8 Y9 g11 g12, X = (win0_7.stage (cfg0.slots t 7)).view.read (Elt F) ((win0_7.stage (cfg0.slots t 7)).view.writes (Elt F) ((hstage0_7 ((cfg0.slots t 7).cast nbuf0_7)).unread (Y)) (runAt m c t Y8 Y9 g11 g12).2.1)

/-- What point `t` may leave in the means' buffer. -/
def after8 (c : Dev nD) (t : Fin cfg0.N) (Y X : Vec F S4x4096 .f32) : Prop :=
  ∃ Y9 g11 g12, X = (win0_8.stage (cfg0.slots t 8)).view.read (Elt F) ((win0_8.stage (cfg0.slots t 8)).view.writes (Elt F) ((hstage0_8 ((cfg0.slots t 8).cast nbuf0_8)).unread (Y)) (runAt m c t Y Y9 g11 g12).2.2.1)

/-- What point `t` may leave in the reciprocal deviations' buffer. -/
def after9 (c : Dev nD) (t : Fin cfg0.N) (Y X : Vec F S4x4096 .f32) : Prop :=
  ∃ Y8 g11 g12, X = (win0_9.stage (cfg0.slots t 9)).view.read (Elt F) ((win0_9.stage (cfg0.slots t 9)).view.writes (Elt F) ((hstage0_9 ((cfg0.slots t 9).cast nbuf0_9)).unread (Y)) (runAt m c t Y8 Y g11 g12).2.2.2.1)

/-- The pipeline's proof data on core `c`: the arrays as the region finds them, the relations above, nothing owed. -/
def rdat (c : Dev nD) : RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => after6 m c t
    | ⟨7, _⟩ => after7 m c t
    | ⟨8, _⟩ => after8 m c t
    | ⟨9, _⟩ => after9 m c t
  Φ _ := Pipeline.ΦA spec0 c
  q _ := fullShare
  owed _ := 0

theorem A_eq (c : Dev nD) (w : Fin cfg0.W) : (rdat m c).A w = V m c (Pipeline.arrRef spec0 w) := by dsimp only [rdat]
theorem finds0_0 (c : Dev nD) (t : Fin cfg0.N) (Y) (h : (rdat m c).Finds 0 t Y) : Y = iblk m c 0 t := by
  obtain ⟨d, rfl⟩ := (rdat m c).finds_in_eq_fetched 0 rfl (fun _ _ _ => rfl) (fun t Y X h => h) t Y h
  rfl
theorem finds0_1 (c : Dev nD) (t : Fin cfg0.N) (Y) (h : (rdat m c).Finds 1 t Y) : Y = iblk m c 1 t := by
  obtain ⟨d, rfl⟩ := (rdat m c).finds_in_eq_fetched 1 rfl (fun _ _ _ => rfl) (fun t Y X h => h) t Y h
  rfl
theorem finds0_2 (c : Dev nD) (t : Fin cfg0.N) (Y) (h : (rdat m c).Finds 2 t Y) : Y = iblk m c 2 t := by
  obtain ⟨d, rfl⟩ := (rdat m c).finds_in_eq_fetched 2 rfl (fun _ _ _ => rfl) (fun t Y X h => h) t Y h
  rfl
theorem finds0_3 (c : Dev nD) (t : Fin cfg0.N) (Y) (h : (rdat m c).Finds 3 t Y) : Y = iblk m c 3 t := by
  obtain ⟨d, rfl⟩ := (rdat m c).finds_in_eq_fetched 3 rfl (fun _ _ _ => rfl) (fun t Y X h => h) t Y h
  rfl
theorem finds0_4 (c : Dev nD) (t : Fin cfg0.N) (Y) (h : (rdat m c).Finds 4 t Y) : Y = iblk m c 4 t := by
  obtain ⟨d, rfl⟩ := (rdat m c).finds_in_eq_fetched 4 rfl (fun _ _ _ => rfl) (fun t Y X h => h) t Y h
  rfl
theorem finds0_5 (c : Dev nD) (t : Fin cfg0.N) (Y) (h : (rdat m c).Finds 5 t Y) : Y = iblk m c 5 t := by
  obtain ⟨d, rfl⟩ := (rdat m c).finds_in_eq_fetched 5 rfl (fun _ _ _ => rfl) (fun t Y X h => h) t Y h
  rfl

theorem PhiA0_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)) ∗ ∃ r, prngReg c r) := by
  unfold Pipeline.ΦA
  rw [scopedRest0_eq]
  simp only [owns_whole]; try rfl

theorem sound_body (c : Dev nD) (t : Fin cfg0.N) (Y6 : Vec F S256x7168 .fp8e4m3) (Y7 : Vec F S256x56 .f32) (Y8 : Vec F S4x4096 .f32) (Y9 : Vec F S4x4096 .f32) :
    (iprop(Pipeline.ΦA spec0 c ∗ (rdat m c).owesAt () t.castSucc ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (Y6) ∗ owns (c : Thread nD τ) (st0_7 t) fullShare (Y7) ∗ owns (c : Thread nD τ) (st0_8 t) fullShare (Y8) ∗ owns (c : Thread nD τ) (st0_9 t) fullShare (Y9)) : sProp 𝕄)
    ⊢ wp frame (wpE (defs₀ (F := F)) Variants.none c none) Set.univ (bodyAt0 t)
      (fun _ => iprop(Pipeline.ΦA spec0 c ∗ (rdat m c).owesAt () t.succ ∗ (∃ X, ⌜X = iblk m c 0 t⌝ ∗ owns (c : Thread nD τ) (st0_0 t) fullShare (X)) ∗ (∃ X, ⌜X = iblk m c 1 t⌝ ∗ owns (c : Thread nD τ) (st0_1 t) fullShare (X)) ∗ (∃ X, ⌜X = iblk m c 2 t⌝ ∗ owns (c : Thread nD τ) (st0_2 t) fullShare (X)) ∗ (∃ X, ⌜X = iblk m c 3 t⌝ ∗ owns (c : Thread nD τ) (st0_3 t) fullShare (X)) ∗ (∃ X, ⌜X = iblk m c 4 t⌝ ∗ owns (c : Thread nD τ) (st0_4 t) fullShare (X)) ∗ (∃ X, ⌜X = iblk m c 5 t⌝ ∗ owns (c : Thread nD τ) (st0_5 t) fullShare (X)) ∗ (∃ X, ⌜after6 m c t Y6 X⌝ ∗ owns (c : Thread nD τ) (st0_6 t) fullShare (X)) ∗ (∃ X, ⌜after7 m c t Y7 X⌝ ∗ owns (c : Thread nD τ) (st0_7 t) fullShare (X)) ∗ (∃ X, ⌜after8 m c t Y8 X⌝ ∗ owns (c : Thread nD τ) (st0_8 t) fullShare (X)) ∗ (∃ X, ⌜after9 m c t Y9 X⌝ ∗ owns (c : Thread nD τ) (st0_9 t) fullShare (X)))) := by
  rw [PhiA0_eq]
  unfold bodyAt0
  unfold owns
  iintro ⟨⟨⟨⟨%d11, %f11, -, S11⟩, ⟨%d12, %f12, -, S12⟩⟩, HP⟩, HW, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩
  obtain rfl := (hstage0_0 ((cfg0.slots t 0).cast nbuf0_0)).eq_unread e0
  obtain rfl := (hstage0_1 ((cfg0.slots t 1).cast nbuf0_1)).eq_unread e1
  obtain rfl := (hstage0_2 ((cfg0.slots t 2).cast nbuf0_2)).eq_unread e2
  obtain rfl := (hstage0_3 ((cfg0.slots t 3).cast nbuf0_3)).eq_unread e3
  obtain rfl := (hstage0_4 ((cfg0.slots t 4).cast nbuf0_4)).eq_unread e4
  obtain rfl := (hstage0_5 ((cfg0.slots t 5).cast nbuf0_5)).eq_unread e5
  obtain rfl := (hstage0_6 ((cfg0.slots t 6).cast nbuf0_6)).eq_unread e6
  obtain rfl := (hstage0_7 ((cfg0.slots t 7).cast nbuf0_7)).eq_unread e7
  obtain rfl := (hstage0_8 ((cfg0.slots t 8).cast nbuf0_8)).eq_unread e8
  obtain rfl := (hstage0_9 ((cfg0.slots t 9).cast nbuf0_9)).eq_unread e9
  iapply (wp_wand_r Idealize.ShloMosaic.frame (wpE (defs₀ (F := F)) Variants.none c none) Set.univ)
  isplitl [S11 S12 H0 H1 H2 H3 H4 H5 H6 H7 H8 H9]
  · iapply ((runAt m c t Y8 Y9 f11 f12).2.2.2.2 Set.univ ((hstage0_6 ((cfg0.slots t 6).cast nbuf0_6)).unread (Y6)) ((hstage0_7 ((cfg0.slots t 7).cast nbuf0_7)).unread (Y7)))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [S11]; · iexact S11
    iexact S12
  iintro %u ⟨H0, H1, H2, H3, H4, H5, H6, H7, H8, H9, ⟨%x11, S11⟩, ⟨%x12, S12⟩⟩
  isplitl [S11 S12 HP]
  · isplitl [S11 S12]
    · isplitl [S11]
      · iexists _, _; isplitr; swap; · iexact S11
        ipureintro; rfl
      · iexists _, _; isplitr; swap; · iexact S12
        ipureintro; rfl
    iexact HP
  isplitl [HW]; · iexact HW
  isplitl [H0]
  · iexists _; isplitr; · ipureintro; rfl
    iexists _; isplitr; swap; · iexact H0
    ipureintro; exact (hstage0_0 _).read_unread _
  isplitl [H1]
  · iexists _; isplitr; · ipureintro; rfl
    iexists _; isplitr; swap; · iexact H1
    ipureintro; exact (hstage0_1 _).read_unread _
  isplitl [H2]
  · iexists _; isplitr; · ipureintro; rfl
    iexists _; isplitr; swap; · iexact H2
    ipureintro; exact (hstage0_2 _).read_unread _
  isplitl [H3]
  · iexists _; isplitr; · ipureintro; rfl
    iexists _; isplitr; swap; · iexact H3
    ipureintro; exact (hstage0_3 _).read_unread _
  isplitl [H4]
  · iexists _; isplitr; · ipureintro; rfl
    iexists _; isplitr; swap; · iexact H4
    ipureintro; exact (hstage0_4 _).read_unread _
  isplitl [H5]
  · iexists _; isplitr; · ipureintro; rfl
    iexists _; isplitr; swap; · iexact H5
    ipureintro; exact (hstage0_5 _).read_unread _
  isplitl [H6]
  · iexists _; isplitr; swap
    · iexists _; isplitr; swap; · iexact H6
      ipureintro; rfl
    ipureintro; exact ⟨Y8, Y9, f11, f12, rfl⟩
  isplitl [H7]
  · iexists _; isplitr; swap
    · iexists _; isplitr; swap; · iexact H7
      ipureintro; rfl
    ipureintro; exact ⟨Y8, Y9, f11, f12, rfl⟩
  isplitl [H8]
  · iexists _; isplitr; swap
    · iexists _; isplitr; swap; · iexact H8
      ipureintro; rfl
    ipureintro; exact ⟨Y9, f11, f12, rfl⟩
  iexists _; isplitr; swap
  · iexists _; isplitr; swap; · iexact H9
    ipureintro; rfl
  ipureintro; exact ⟨Y8, f11, f12, rfl⟩

theorem defs₀_row (t : Fin cfg0.N) :
    defs₀ (F := F) .tc cfg0.body (cfg0.bodyArgs t (cfg0.slots t)) = bodyAt0 t := by
  unfold defs₀; rw [Defs.onTc_tc]

theorem body_obligation (c : Dev nD) : (rdat (F := F) m c).BodyObligation (defs₀ (F := F)) Variants.none () Set.univ := fun t Y hY => by
  rw [bigSep_W0, bigSep_W0, defs₀_row]
  have h0 := finds0_0 m c t _ (hY 0)
  have h1 := finds0_1 m c t _ (hY 1)
  have h2 := finds0_2 m c t _ (hY 2)
  have h3 := finds0_3 m c t _ (hY 3)
  have h4 := finds0_4 m c t _ (hY 4)
  have h5 := finds0_5 m c t _ (hY 5)
  rw [h0, h1, h2, h3, h4, h5]
  exact triple_restated (sound_body m c t (Y 6) (Y 7) (Y 8) (Y 9)) rfl .rfl fun _ => .rfl

/-! ## The run and the frame -/

set_option backward.isDefEq.respectTransparency.types false in
/-- From any memory with zero counters every weakly fair execution ends in a state the relations describe, every counter
    zero. -/
theorem run_main : θ_run defs (onTc (τ := τ) (main (F := F))) (s₀ m ρ)
    (fun r => RDat.FramePost cfg0 (rdat m) (V m) r ∧ r.2.sem = fun _ => 0) :=
  Pipeline.RDat.θ_run_frame (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := A_eq m) (hΦ := fun _ _ => rfl)

/-- The frame of one final state: the arguments as launched. -/
theorem args_of_post (r : PUnit × MemSt nD τ sig (Elt F)) (h : RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
      (h.arr_in c 0 rfl).trans ((A_eq m c 0).trans (V_main_arg1 m c)),
      (h.arr_in c 2 rfl).trans ((A_eq m c 2).trans (V_main_arg2 m c)),
      (h.arr_in c 3 rfl).trans ((A_eq m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩

/-- THE FRAME, at any float instance: the program ends, its arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_of_post m r h.1, h.2⟩) (run_main m ρ)

end Cert.KernelIdeal.Hand

end
-- ==== Proof.ScaleMath.lean ====
/-
  The power-of-two scale of a block, as scalars over the extended reals: the kernel finds `t`'s exponent field by comparing `t`
  with the floats whose bits are the multiples of 2^23, and forms the scale and its inverse as bits; the reference takes
  `2^e` with `e = ⌊log₂ t⌋ + 1` on `2^-126 ≤ t < 2^126` and `e = 0` elsewhere. The two agree at every `t`.
-/
module

public import Idealize.ShloMosaic.PureOps.Ideal
public import Idealize.ShloMosaic.Lib.Pointwise

@[expose] public section

set_option maxRecDepth 16384

noncomputable section

namespace Cert.Scale

open Idealize.ShloMosaic

/-- The word `k · 2^23`. -/
def word (k : Nat) : BitVec 32 := IntOp.shli ArithUnit.vector (BitVec.ofNat 32 k) 23#32

/-- The kernel's exponent field of `t`. -/
def field (t : EReal) : BitVec 32 :=
  if t < Ideal.ofBits FTy.f32 2122317824#32 then
    Finset.fold IntOp.maxsi (2147483648#32)
      (fun k : Fin 256 => if Ideal.ofBits FTy.f32 (word k) ≤ t then word k else 0#32) Finset.univ
  else 2139095040#32

/-- The kernel's scale bits from an exponent field. -/
def bits (f : BitVec 32) : BitVec 32 :=
  Scalar.select (IntOp.andi (IntOp.cmpi CmpIPredicate.sgt f 0#32) (IntOp.cmpi CmpIPredicate.slt f 2139095040#32))
    (IntOp.addi f 8388608#32) 1065353216#32

/-- The reference's exponent of `t`. -/
def expo (t : EReal) : EReal :=
  if Ideal.ofBits FTy.f32 8388608#32 ≤ t ∧ t < Ideal.ofBits FTy.f32 2122317824#32 then
    Ideal.liftRound Int.floor (Ideal.div (Ideal.log t) (Ideal.log (Ideal.ofBits FTy.f32 1073741824#32))) + Ideal.ofBits FTy.f32 1065353216#32
  else 0

/-- The words of 1 … 254 are the normal powers of two. -/
theorem ofBits_word (k : Fin 256) (h1 : 1 ≤ k.val) (h2 : k.val ≤ 254) :
    Ideal.ofBits FTy.f32 (word k) = (((2 : ℝ) ^ ((k.val : Int) - 127) : ℝ) : EReal) := by
  have hb : ∀ k : Fin 256, ((word k).extractLsb' (8 + 23) 1 == 1#1) = false
      ∧ ((word k).extractLsb' 23 8).toNat = k.val ∧ ((word k).extractLsb' 0 23).toNat = 0 := by decide +kernel
  obtain ⟨hs, he, hf⟩ := hb k
  have e : Ideal.ofBits FTy.f32 (word k) = Ideal.ieee 8 23 (word k) := rfl
  rw [e]
  unfold Ideal.ieee
  simp only [hs, he, hf]
  rw [if_neg (by omega), if_neg (by omega)]
  refine congrArg Real.toEReal ?_
  have h3 : (k.val : Int) - (2 ^ (8 - 1) - 1) - ((23 : ℕ) : Int) = ((k.val : Int) - 127) - 23 := by norm_num
  rw [h3, zpow_sub₀ (by norm_num : (2 : ℝ) ≠ 0)]
  norm_num
  field_simp

theorem ofBits_word_zero : Ideal.ofBits FTy.f32 (word 0) = 0 := by
  have : word 0 = 0#32 := by decide
  rw [this]; exact Ideal.ofBits_zero_f32

theorem ofBits_word_top : Ideal.ofBits FTy.f32 (word 255) = ⊤ := by
  have hb : ((word 255).extractLsb' (8 + 23) 1 == 1#1) = false
      ∧ ((word 255).extractLsb' 23 8).toNat = 255 ∧ ((word 255).extractLsb' 0 23).toNat = 0 := by decide +kernel
  obtain ⟨hs, he, hf⟩ := hb
  have e : Ideal.ofBits FTy.f32 (word 255) = Ideal.ieee 8 23 (word 255) := rfl
  rw [e]
  unfold Ideal.ieee
  simp only [hs, he, hf]
  norm_num

theorem ofBits_lo : Ideal.ofBits FTy.f32 8388608#32 = (((2 : ℝ) ^ (-126 : Int) : ℝ) : EReal) := by
  have : (8388608#32 : BitVec 32) = word (1 : Fin 256) := by decide
  rw [this, ofBits_word _ (by decide) (by decide)]; rfl

theorem ofBits_hi : Ideal.ofBits FTy.f32 2122317824#32 = (((2 : ℝ) ^ (126 : Int) : ℝ) : EReal) := by
  have : (2122317824#32 : BitVec 32) = word (253 : Fin 256) := by decide
  rw [this, ofBits_word _ (by decide) (by decide)]; rfl

theorem ofBits_one : Ideal.ofBits FTy.f32 1065353216#32 = 1 := Ideal.ofBits_one_f32

theorem ofBits_two : Ideal.ofBits FTy.f32 1073741824#32 = ((2 : ℝ) : EReal) := by
  have : (1073741824#32 : BitVec 32) = word (128 : Fin 256) := by decide
  rw [this, ofBits_word _ (by decide) (by decide)]; norm_num

/-- The signed maximum of words is the maximum of their integers. -/
theorem toInt_fold (f : Fin 256 → BitVec 32) (b : BitVec 32) (s : Finset (Fin 256)) :
    (Finset.fold IntOp.maxsi b f s).toInt = Finset.fold max b.toInt (fun k => (f k).toInt) s := by
  refine (Finset.fold_hom (m := BitVec.toInt) fun x y => ?_).symm
  unfold IntOp.maxsi
  by_cases h : y.slt x = true
  · rw [if_pos h]; have := BitVec.slt_iff_toInt_lt.1 h; omega
  · rw [if_neg h]; have : ¬ y.toInt < x.toInt := fun h' => h (BitVec.slt_iff_toInt_lt.2 h'); omega

/-- The largest of the words `0 … n`, the rest read as zero, is `n`'s. -/
theorem fold_word (n : Fin 255) :
    Finset.fold IntOp.maxsi (2147483648#32) (fun k : Fin 256 => if k.val ≤ n.val then word k else 0#32) Finset.univ = word n := by
  have hw : ∀ k : Fin 255, (word k).toInt = (k.val : Int) * 8388608 := by decide +kernel
  apply BitVec.eq_of_toInt_eq
  rw [toInt_fold]
  have hv : ∀ k : Fin 256, (if k.val ≤ n.val then word k else 0#32).toInt ≤ (n.val : Int) * 8388608 := fun k => by
    split
    · rename_i h
      have := hw ⟨k.val, by have := n.isLt; omega⟩
      simp only at this
      rw [this]; omega
    · simp only [BitVec.toInt_zero]; omega
  rw [hw n]
  apply le_antisymm
  · rw [Finset.fold_max_le]
    exact ⟨le_trans (by decide : (2147483648#32 : BitVec 32).toInt ≤ 0) (by omega), fun k _ => hv k⟩
  · rw [Finset.le_fold_max]
    right
    refine ⟨⟨n.val, by have := n.isLt; omega⟩, Finset.mem_univ _, ?_⟩
    simp only [le_refl, if_true]
    rw [hw n]

/-- Where `t`'s comparison with the `k`-th power of two is `k ≤ n`, the field is `n`'s word. -/
theorem fold_eq (t : EReal) (n : Fin 255)
    (h : ∀ k : Fin 256, 1 ≤ k.val → (Ideal.ofBits FTy.f32 (word k) ≤ t ↔ k.val ≤ n.val)) :
    Finset.fold IntOp.maxsi (2147483648#32)
      (fun k : Fin 256 => if Ideal.ofBits FTy.f32 (word k) ≤ t then word k else 0#32) Finset.univ = word n := by
  rw [← fold_word n]
  congr 1
  funext k
  by_cases hk : 1 ≤ k.val
  · simp only [h k hk]
  · have : k.val = 0 := by omega
    have h0 : word k = 0#32 := by rw [this]; decide
    simp only [h0, ite_self]

/-- A positive real lies in a binade. -/
theorem exists_binade {r : ℝ} (h1 : (2 : ℝ) ^ (-126 : Int) ≤ r) (h2 : r < (2 : ℝ) ^ (126 : Int)) :
    ∃ n : Fin 255, 1 ≤ n.val ∧ n.val ≤ 252 ∧ (2 : ℝ) ^ ((n.val : Int) - 127) ≤ r ∧ r < (2 : ℝ) ^ ((n.val : Int) - 126) := by
  have hr : 0 < r := lt_of_lt_of_le (by positivity) h1
  obtain ⟨z, hz1, hz2⟩ := exists_mem_Ico_zpow hr (by norm_num : (1 : ℝ) < 2)
  have a1 : -126 < z + 1 := (zpow_lt_zpow_iff_right₀ (by norm_num : (1 : ℝ) < 2)).1 (lt_of_le_of_lt h1 hz2)
  have a2 : z < 126 := (zpow_lt_zpow_iff_right₀ (by norm_num : (1 : ℝ) < 2)).1 (lt_of_le_of_lt hz1 h2)
  refine ⟨⟨(z + 127).toNat, by omega⟩, by simp only; omega, by simp only; omega, ?_, ?_⟩
  · have : (((z + 127).toNat : ℕ) : Int) - 127 = z := by omega
    simp only [this]; exact hz1
  · have : (((z + 127).toNat : ℕ) : Int) - 126 = z + 1 := by omega
    simp only [this]; exact hz2

/-- The scale bits and inverse bits of the field of binade `n`. -/
theorem bits_word : ∀ n : Fin 255, 1 ≤ n.val → n.val ≤ 252 → bits (word n) = word (n.val + 1)
    ∧ IntOp.subi (2130706432#32) (bits (word n)) = word (253 - n.val) := by decide +kernel

theorem bits_irregular : (bits (word 0) = 1065353216#32 ∧ IntOp.subi (2130706432#32) (bits (word 0)) = 1065353216#32)
    ∧ (bits 2139095040#32 = 1065353216#32 ∧ IntOp.subi (2130706432#32) (bits 2139095040#32) = 1065353216#32) := by decide +kernel

/-- The reference's exponent on binade `n`. -/
theorem expo_binade {r : ℝ} (n : Fin 255) (h1 : 1 ≤ n.val) (h2 : n.val ≤ 252)
    (hl : (2 : ℝ) ^ ((n.val : Int) - 127) ≤ r) (hu : r < (2 : ℝ) ^ ((n.val : Int) - 126)) :
    expo (r : EReal) = (((n.val : ℝ) - 126 : ℝ) : EReal) := by
  have hr : 0 < r := lt_of_lt_of_le (by positivity) hl
  have c1 : (2 : ℝ) ^ (-126 : Int) ≤ r := le_trans (zpow_le_zpow_right₀ (by norm_num) (by omega)) hl
  have c2 : r < (2 : ℝ) ^ (126 : Int) := lt_of_lt_of_le hu (zpow_le_zpow_right₀ (by norm_num) (by omega))
  unfold expo
  rw [ofBits_lo, ofBits_hi, ofBits_two, ofBits_one, if_pos ⟨EReal.coe_le_coe_iff.2 c1, EReal.coe_lt_coe_iff.2 c2⟩]
  have l1 : Ideal.log (r : EReal) = (Real.log r : EReal) := by
    show (if r ≤ 0 then (⊥ : EReal) else (Real.log r : EReal)) = _
    rw [if_neg (not_le.2 hr)]
  have l2 : Ideal.log ((2 : ℝ) : EReal) = (Real.log 2 : EReal) := by
    show (if (2 : ℝ) ≤ 0 then (⊥ : EReal) else (Real.log 2 : EReal)) = _
    rw [if_neg (by norm_num)]
  have hl2 : 0 < Real.log 2 := Real.log_pos (by norm_num)
  rw [l1, l2]
  have hd : Ideal.div (Real.log r : EReal) (Real.log 2 : EReal) = ((Real.log r / Real.log 2 : ℝ) : EReal) := by
    unfold Ideal.div
    rw [if_neg (by exact_mod_cast hl2.ne'), ← EReal.coe_inv, ← EReal.coe_mul, div_eq_mul_inv]
  rw [hd]
  have hfl : Int.floor (Real.log r / Real.log 2) = (n.val : Int) - 127 := by
    rw [Int.floor_eq_iff]
    have hlog : ∀ z : Int, Real.log ((2 : ℝ) ^ z) = z * Real.log 2 := fun z => Real.log_zpow 2 z
    constructor
    · rw [le_div_iff₀ hl2, ← hlog]
      exact Real.log_le_log (by positivity) hl
    · rw [div_lt_iff₀ hl2]
      have := Real.log_lt_log hr hu
      rw [hlog] at this
      refine lt_of_lt_of_eq this ?_
      push_cast; ring
  show (((Int.floor (Real.log r / Real.log 2) : ℝ)) : EReal) + 1 = _
  rw [hfl]
  have : ((1 : EReal)) = ((1 : ℝ) : EReal) := rfl
  rw [this, ← EReal.coe_add]
  congr 1
  push_cast; ring

theorem exp2_int (z : Int) : Ideal.exp2 ((z : ℝ) : EReal) = (((2 : ℝ) ^ z : ℝ) : EReal) := by
  show ((Real.rpow 2 (z : ℝ) : ℝ) : EReal) = _
  congr 1
  exact Real.rpow_intCast 2 z

/-- THE SCALE: the kernel's bits read as a float are the reference's `2^e`, and its inverse's `2^-e`. -/
theorem scale_eq (t : EReal) : Ideal.ofBits FTy.f32 (bits (field t)) = Ideal.exp2 (expo t)
    ∧ Ideal.ofBits FTy.f32 (IntOp.subi (2130706432#32) (bits (field t))) = Ideal.exp2 (0 - expo t) := by
  have e0 : Ideal.exp2 0 = 1 := by
    have := exp2_int 0
    simpa using this
  by_cases hhi : t < Ideal.ofBits FTy.f32 2122317824#32
  · by_cases hlo : Ideal.ofBits FTy.f32 8388608#32 ≤ t
    · -- a normal binade
      induction t using EReal.rec with
      | bot => rw [ofBits_lo] at hlo; exact absurd hlo (by simp)
      | top => exact absurd hhi (by simp)
      | coe r =>
        have h1 := hlo; have h2 := hhi
        rw [ofBits_lo, EReal.coe_le_coe_iff] at h1
        rw [ofBits_hi, EReal.coe_lt_coe_iff] at h2
        obtain ⟨n, n1, n2, hl, hu⟩ := exists_binade h1 h2
        have hf : field (r : EReal) = word n := by
          unfold field
          rw [if_pos hhi]
          refine fold_eq _ n fun k hk => ?_
          by_cases hk2 : k.val ≤ 254
          · rw [ofBits_word k hk hk2, EReal.coe_le_coe_iff]
            constructor
            · intro h
              have := (zpow_lt_zpow_iff_right₀ (by norm_num : (1 : ℝ) < 2)).1 (lt_of_le_of_lt h hu)
              omega
            · intro h
              exact le_trans (zpow_le_zpow_right₀ (by norm_num) (by omega)) hl
          · have : k = 255 := Fin.ext (by have := k.isLt; show k.val = 255; omega)
            subst this
            rw [show word ((255 : Fin 256) : Nat) = word 255 from rfl, ofBits_word_top]
            constructor
            · intro h; exact absurd (top_le_iff.1 h) (EReal.coe_ne_top r)
            · intro h; have := n.isLt; exact absurd h (by show ¬ 255 ≤ n.val; omega)
        obtain ⟨b1, b2⟩ := bits_word n n1 n2
        rw [hf, expo_binade n n1 n2 hl hu, b2, b1]
        constructor
        · rw [show word (n.val + 1) = word ((⟨n.val + 1, by omega⟩ : Fin 256) : Nat) from rfl,
            ofBits_word _ (by simp) (by simp only; omega)]
          rw [show (((n.val : ℝ) - 126 : ℝ) : EReal) = ((((n.val : Int) - 126 : Int) : ℝ) : EReal) by push_cast; rfl, exp2_int]
          congr 2; push_cast; ring
        · rw [show word (253 - n.val) = word ((⟨253 - n.val, by omega⟩ : Fin 256) : Nat) from rfl,
            ofBits_word _ (by simp only; omega) (by simp only; omega)]
          rw [show (0 : EReal) - (((n.val : ℝ) - 126 : ℝ) : EReal) = (((126 - (n.val : Int) : Int) : ℝ) : EReal) by
            rw [show (0 : EReal) = ((0 : ℝ) : EReal) from rfl, ← EReal.coe_sub]; congr 1; push_cast; ring, exp2_int]
          congr 2; simp only; omega
    · -- below the normal range
      have hf : field t = word 0 := by
        unfold field
        rw [if_pos hhi]
        refine fold_eq t ⟨0, by omega⟩ fun k hk => ?_
        have hne : ¬ Ideal.ofBits FTy.f32 (word k) ≤ t := by
          intro h
          refine hlo (le_trans ?_ h)
          rw [ofBits_lo]
          by_cases hk2 : k.val ≤ 254
          · rw [ofBits_word k hk hk2, EReal.coe_le_coe_iff]
            exact zpow_le_zpow_right₀ (by norm_num) (by omega)
          · have : k = 255 := Fin.ext (by have := k.isLt; show k.val = 255; omega)
            subst this
            rw [show word ((255 : Fin 256) : Nat) = word 255 from rfl, ofBits_word_top]; exact le_top
        exact ⟨fun h => absurd h hne, fun h => by exact absurd h (by show ¬ k.val ≤ 0; omega)⟩
      have he : expo t = 0 := if_neg fun h => hlo h.1
      rw [hf, he, bits_irregular.1.2, bits_irregular.1.1, ofBits_one, e0, sub_zero, e0]
      exact ⟨rfl, rfl⟩
  · have hf : field t = 2139095040#32 := if_neg hhi
    have he : expo t = 0 := if_neg fun h => hhi h.2
    rw [hf, he, bits_irregular.2.2, bits_irregular.2.1, ofBits_one, e0, sub_zero, e0]
    exact ⟨rfl, rfl⟩

end Cert.Scale

end

end
-- ==== Proof.Norm.lean ====
/-
  The mathematics both programs compute, over the extended reals: the local mean and sum of squared deviations of one
  token's 7168 channels, their merge with one peer's, the normalised row, and the power-of-two scale and fp8 codes of
  each block of 128 channels.
-/
module

public import proofs.«01_k».proof.Proof.ScaleMath

@[expose] public section

noncomputable section

namespace Cert.Norm

open Idealize.ShloMosaic

/-- The number of channels. -/
def width : EReal := Ideal.ofBits .f32 1172307968#32

/-- The mean of one token's channels. -/
def locMean (x : Fin 7168 → EReal) : EReal := Ideal.div (∑ c, x c) width

/-- The sum of the squared deviations from that mean. -/
def locM2 (x : Fin 7168 → EReal) : EReal := ∑ c, (x c - locMean x) * (x c - locMean x)

/-- The mean merged with a peer of count `n` and mean `pm`. -/
def mean (n pm : EReal) (x : Fin 7168 → EReal) : EReal := pm + (locMean x - pm) * Ideal.div width (n + width)

/-- The reciprocal standard deviation, merged with a peer of count `n`, mean `pm` and squared deviations `p2`. -/
def rstd (n pm p2 : EReal) (x : Fin 7168 → EReal) : EReal :=
  Ideal.rsqrt (Ideal.div (p2 + locM2 x + (locMean x - pm) * (locMean x - pm) * Ideal.div (n * width) (n + width)) (n + width)
    + Ideal.ofBits .f32 925353388#32)

/-- One normalised channel. -/
def norm (mu rs g be x : EReal) : EReal := (x - mu) * rs * g + be

/-- The largest magnitude of a block, over 448. -/
def blockT (y : Fin 128 → EReal) : EReal :=
  Finset.fold max (Ideal.ofBits .f32 4286578688#32) (fun l => FloatOps.absf (F := Ideal) (φ := .f32) (y l)) Finset.univ * Ideal.ofBits .f32 991054117#32

/-- The scale of a block. -/
def scale (y : Fin 128 → EReal) : EReal := Ideal.exp2 (Cert.Scale.expo (blockT y))

/-- One code of a block. -/
def code (y : Fin 128 → EReal) (l : Fin 128) : EReal :=
  min (Ideal.ofBits .f32 1138753536#32) (max (Ideal.ofBits .f32 3286237184#32) (y l * Ideal.exp2 (0 - Cert.Scale.expo (blockT y))))

/-! ## The four results of the problem, as functions of its six inputs -/

section
variable (n : EReal) (x : Fin 4 → Fin 4096 → Fin 7168 → EReal) (pm p2 : Fin 4 → Fin 4096 → EReal) (g be : Fin 7168 → EReal)

def meanAt (b : Fin 4) (s : Fin 4096) : EReal := mean n (pm b s) (x b s)
def rstdAt (b : Fin 4) (s : Fin 4096) : EReal := rstd n (pm b s) (p2 b s) (x b s)

/-- Channel `l` of block `j` of a token, normalised. -/
def normAt (b : Fin 4) (s : Fin 4096) (j : Fin 56) (l : Fin 128) : EReal :=
  norm (meanAt n x pm b s) (rstdAt n x pm p2 b s) (g ⟨j.val * 128 + l.val, by omega⟩) (be ⟨j.val * 128 + l.val, by omega⟩)
    (x b s ⟨j.val * 128 + l.val, by omega⟩)

def scaleAt (r : Fin 16384) (j : Fin 56) : EReal :=
  scale (normAt n x pm p2 g be ⟨r.val / 4096, by omega⟩ ⟨r.val % 4096, by omega⟩ j)

def codeAt (r : Fin 16384) (c : Fin 7168) : EReal :=
  code (normAt n x pm p2 g be ⟨r.val / 4096, by omega⟩ ⟨r.val % 4096, by omega⟩ ⟨c.val / 128, by omega⟩) ⟨c.val % 128, by omega⟩

end

/-! ## A sum cut into blocks -/

/-- Adding up each lane over the blocks and then the lanes is adding up all the channels. -/
theorem sum_lanes (f : Fin 7168 → EReal) :
    (∑ l : Fin 128, ∑ j : Fin 56, f ⟨j.val * 128 + l.val, by omega⟩) = ∑ c, f c := by
  rw [Finset.sum_comm, ← Fintype.sum_prod_type' (fun (j : Fin 56) (l : Fin 128) => f ⟨j.val * 128 + l.val, by omega⟩)]
  refine Fintype.sum_equiv (finProdFinEquiv (m := 56) (n := 128)) _ f fun p => ?_
  refine congrArg f (Fin.ext ?_)
  show p.1.val * 128 + p.2.val = p.2.val + 128 * p.1.val
  omega

/-- The sum over the batch rows of a value kept at one row and dropped at the others is the value there. -/
theorem sum_row (b : Fin 4) (v : Fin 4 → EReal) (m : Fin 4 → BitVec 1) (hm : ∀ a, m a = if a = b then 1#1 else 0#1) :
    (∑ a, Scalar.select (m a) (v a) 0) = v b := by
  rw [Finset.sum_eq_single b]
  · rw [hm, if_pos rfl]; rfl
  · intro a _ ha; rw [hm, if_neg ha]; rfl
  · intro h; exact absurd (Finset.mem_univ b) h

end Cert.Norm

end

end
-- ==== Proof.KernelIdealBlocks.lean ====
/-
  What one trip of the output loop stores, at any float instance: for each of the 56 blocks of 128 features the block's codes, and one
  column of scales. Each store's payload is one block formula over the trip's loads.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp
public import Idealize.ShloMosaic.Lib.Pointwise
public import proofs.«01_k».proof.Proof.KernelIdealRun

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

variable (c : Dev nD) (i : grid0.Coords)
  (arg1 : Memref sig .tc .smem S1 .f32) (harg1 : arg1.IsWhole)
  (arg2 : Memref sig .tc .vmem S256x7168 .bf16) (harg2 : arg2.IsWhole)
  (arg3 : Memref sig .tc .vmem S1x4x4096 .f32) (harg3 : arg3.IsWhole)
  (arg4 : Memref sig .tc .vmem S1x4x4096 .f32) (harg4 : arg4.IsWhole)
  (arg5 : Memref sig .tc .vmem S1x7168 .f32) (harg5 : arg5.IsWhole)
  (arg6 : Memref sig .tc .vmem S1x7168 .f32) (harg6 : arg6.IsWhole)
  (arg7 : Memref sig .tc .vmem S256x7168 .fp8e4m3) (harg7 : arg7.IsWhole)
  (arg8 : Memref sig .tc .vmem S256x56 .f32) (harg8 : arg8.IsWhole)
  (arg9 : Memref sig .tc .vmem S4x4096 .f32) (harg9 : arg9.IsWhole)
  (arg10 : Memref sig .tc .vmem S4x4096 .f32) (harg10 : arg10.IsWhole)
  (arg11 : Memref sig .tc .vmem S2x256x128 .f32) (harg11 : arg11.IsWhole)
  (arg12 : Memref sig .tc .vmem S2x256x128 .f32) (harg12 : arg12.IsWhole)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
  (g9 : BufTy.Contents (Elt F) arg9.view.ty) (g10 : BufTy.Contents (Elt F) arg10.view.ty) (g11 : BufTy.Contents (Elt F) arg11.view.ty) (g12 X12 : BufTy.Contents (Elt F) arg12.view.ty)

/-- A block of 32 rows and 128 features of `y = (x - mean) · rstd · gamma + beta`, as the body forms it. -/
def yBlk (mu rs : Vec F S1x32x128 .f32) (x : Vec F S32x128 .bf16) (g b : Vec F S1x128 .f32) : FVec F S32x128 .f32 :=
  addf (mulf (mulf (subf (extf .f32 (shapeCast S32x128 x shapeCasts_S32x128_S32x128) bitsLt_bf16_f32)
      (shapeCast S32x128 mu shapeCasts_S1x32x128_S32x128)) (shapeCast S32x128 rs shapeCasts_S1x32x128_S32x128))
    (broadcastTo S32x128 (shapeCast S1x128 g shapeCasts_S1x128_S1x128) broadcasts_S1x128_S32x128))
    (broadcastTo S32x128 (shapeCast S1x128 b shapeCasts_S1x128_S1x128) broadcasts_S1x128_S32x128)

/-- Each row's largest `|y|` over 448. -/
def tBlk (y : FVec F S32x128 .f32) : FVec F S32x1 .f32 :=
  mulf (shapeCast S32x1 (multiReduction .maximumf [1] S32 (absf y) 0xFF800000#32 reduces_S32x128_S32 (.inl rfl) rfl) shapeCasts_S32_S32x1)
    (broadcast S32x1 (Scalar.ofBits .f32 0x3B124925#32))

/-- The exponent field of each row's `t`. -/
def fieldBlk (t : FVec F S32x1 .f32) : IVec S32x1 32 :=
  select (cmpf .olt t (broadcast S32x1 (Scalar.ofBits .f32 0x7E800000#32)))
    (shapeCast S32x1 (multiReductionI .maxsi [1] S32
      (select (cmpf .oge (broadcastTo S32x256 t broadcasts_S32x1_S32x256)
          (broadcastTo S32x256 (bitcastToFloat .f32 (shli (iota .tc S1x256 32 [1] iota_S1x256_d1_w32) (broadcast S1x256 23#32)))
            broadcasts_S1x256_S32x256))
        (broadcastTo S32x256 (shapeCast S1x256 (shli (iota .tc S1x256 32 [1] iota_S1x256_d1_w32) (broadcast S1x256 23#32))
          shapeCasts_S1x256_S1x256) broadcasts_S1x256_S32x256)
        (broadcast S32x256 0#32)) 2147483648#32 reduces_S32x256_S32 rfl) shapeCasts_S32_S32x1)
    (broadcast S32x1 2139095040#32)

/-- The bits of each row's scale. -/
def scaleBits (f : IVec S32x1 32) : IVec S32x1 32 :=
  select (andi (cmpi .sgt f (broadcast S32x1 0#32)) (cmpi .slt f (broadcast S32x1 2139095040#32)))
    (addi f (broadcast S32x1 8388608#32)) (broadcast S32x1 1065353216#32)

/-- The block's codes: `y` over its row's scale, clipped to ±448. -/
def codesBlk (y : FVec F S32x128 .f32) : FVec F S32x128 .fp8e4m3 :=
  truncf .fp8e4m3 (minimumf (broadcast S32x128 (Scalar.ofBits .f32 0x43E00000#32))
    (maximumf (broadcast S32x128 (Scalar.ofBits .f32 0xC3E00000#32))
      (mulf y (broadcastTo S32x128 (bitcastToFloat .f32 (subi (broadcast S32x1 2130706432#32) (scaleBits (fieldBlk (tBlk y)))))
        broadcasts_S32x1_S32x128)))) bitsLt_fp8e4m3_f32

theorem inb_x (k : Fin k0_t2_loop.trips) (j : Fin 56) : ∀ a, (![32 * k.val, 128 * j.val] : Fin 2 → Nat) a + S32x128.size a ≤ S256x7168.size a := by
  have hk : k.val < 8 := Nat.lt_of_lt_of_le k.isLt k0_t2_abs.2.1
  have hj := j.isLt
  intro a
  match a with
  | ⟨0, _⟩ => show 32 * k.val + 32 ≤ 256; omega
  | ⟨1, _⟩ => show 128 * j.val + 128 ≤ 7168; omega

theorem inb_g (j : Fin 56) : ∀ a, (![0, 128 * j.val] : Fin 2 → Nat) a + S1x128.size a ≤ S1x7168.size a := by
  have hj := j.isLt
  intro a
  match a with
  | ⟨0, _⟩ => show 0 + 1 ≤ 1; omega
  | ⟨1, _⟩ => show 128 * j.val + 128 ≤ 7168; omega

/-- Block `j` of `y` on trip `k`. -/
def yAt (k : Fin k0_t2_loop.trips) (j : Fin 56) : FVec F S32x128 .f32 :=
  yBlk (View.readAt (Elt F) arg12.view (Rect.unit (s := S2x256x128) (k0_off61 k) S1x32x128.size (k0_off61_inb k)).toLoadRect X12)
    (View.readAt (Elt F) arg12.view (Rect.unit (s := S2x256x128) (k0_off62 k) S1x32x128.size (k0_off62_inb k)).toLoadRect X12)
    (View.readAt (Elt F) arg2.view (Rect.unit (s := S256x7168) ![32 * k.val, 128 * j.val] S32x128.size (inb_x k j)).toLoadRect X2)
    (View.readAt (Elt F) arg5.view (Rect.unit (s := S1x7168) ![0, 128 * j.val] S1x128.size (inb_g j)).toLoadRect X5)
    (View.readAt (Elt F) arg6.view (Rect.unit (s := S1x7168) ![0, 128 * j.val] S1x128.size (inb_g j)).toLoadRect X6)

/-- The store of block `j`'s codes on trip `k`. -/
def piece7 (k : Fin k0_t2_loop.trips) (j : Fin 56) : View.Piece (Elt F) S256x7168 .fp8e4m3 :=
  ⟨Rect.unit (s := S256x7168) ![32 * k.val, 128 * j.val] S32x128.size (inb_x k j), codesBlk (yAt arg2 arg5 arg6 arg12 X2 X5 X6 X12 k j)⟩

theorem piece7_eq (k : Fin k0_t2_loop.trips) (j : Fin 56) (off : Fin 2 → Nat) (hoff : off = ![32 * k.val, 128 * j.val])
    (h : ∀ a, off a + S32x128.size a ≤ S256x7168.size a) (w : FVec F S32x128 .fp8e4m3)
    (hw : w = codesBlk (yBlk
      (View.readAt (Elt F) arg12.view (Rect.unit (s := S2x256x128) (k0_off61 k) S1x32x128.size (k0_off61_inb k)).toLoadRect X12)
      (View.readAt (Elt F) arg12.view (Rect.unit (s := S2x256x128) (k0_off62 k) S1x32x128.size (k0_off62_inb k)).toLoadRect X12)
      (View.readAt (Elt F) arg2.view (Rect.unit (s := S256x7168) off S32x128.size h).toLoadRect X2)
      (View.readAt (Elt F) arg5.view (Rect.unit (s := S1x7168) ![0, 128 * j.val] S1x128.size (inb_g j)).toLoadRect X5)
      (View.readAt (Elt F) arg6.view (Rect.unit (s := S1x7168) ![0, 128 * j.val] S1x128.size (inb_g j)).toLoadRect X6))) :
    (⟨Rect.unit (s := S256x7168) off S32x128.size h, w⟩ : View.Piece (Elt F) S256x7168 .fp8e4m3) = piece7 arg2 arg5 arg6 arg12 X2 X5 X6 X12 k j := by
  subst hoff; subst hw; rfl

theorem finRange_rev : (List.finRange 56).reverse = [55, 54, 53, 52, 51, 50, 49, 48, 47, 46, 45, 44, 43, 42, 41, 40, 39, 38, 37, 36, 35, 34, 33, 32,
    31, 30, 29, 28, 27, 26, 25, 24, 23, 22, 21, 20, 19, 18, 17, 16, 15, 14, 13, 12, 11, 10, 9, 8, 7, 6, 5, 4, 3, 2, 1, 0] := by decide

/-- What trip `k` stores into the codes: its 56 blocks. -/
theorem trip2_codes (k : Fin k0_t2_loop.trips) :
    (trip_k0_t2 (F := F) Variants.none c none i arg1 harg1 arg2 harg2 arg3 harg3 arg4 harg4 arg5 harg5 arg6 harg6 arg7 harg7 arg8 harg8 arg9 harg9 arg10 harg10 arg11 harg11 arg12 harg12 X2 X5 X6 X12 k).1
      = (List.finRange 56).reverse.map (piece7 arg2 arg5 arg6 arg12 X2 X5 X6 X12 k) := by
  rw [finRange_rev]
  unfold trip_k0_t2
  simp only [List.map_cons, List.map_nil]
  repeat' refine congrArg₂ List.cons (piece7_eq arg2 arg5 arg6 arg12 X2 X5 X6 X12 k _ _ (by revert k; decide +kernel) _ _ rfl) ?_
  rfl

end Cert.KernelIdeal.Hand

end

end
-- ==== Proof.KernelIdealScales.lean ====
/-
  What one trip of the output loop stores into the scales, at any float instance: the 56 blocks' columns of scales side by side.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp
public import Idealize.ShloMosaic.Lib.Pointwise
public import proofs.«01_k».proof.Proof.KernelIdealBlocks

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

variable (c : Dev nD) (i : grid0.Coords)
  (arg1 : Memref sig .tc .smem S1 .f32) (harg1 : arg1.IsWhole)
  (arg2 : Memref sig .tc .vmem S256x7168 .bf16) (harg2 : arg2.IsWhole)
  (arg3 : Memref sig .tc .vmem S1x4x4096 .f32) (harg3 : arg3.IsWhole)
  (arg4 : Memref sig .tc .vmem S1x4x4096 .f32) (harg4 : arg4.IsWhole)
  (arg5 : Memref sig .tc .vmem S1x7168 .f32) (harg5 : arg5.IsWhole)
  (arg6 : Memref sig .tc .vmem S1x7168 .f32) (harg6 : arg6.IsWhole)
  (arg7 : Memref sig .tc .vmem S256x7168 .fp8e4m3) (harg7 : arg7.IsWhole)
  (arg8 : Memref sig .tc .vmem S256x56 .f32) (harg8 : arg8.IsWhole)
  (arg9 : Memref sig .tc .vmem S4x4096 .f32) (harg9 : arg9.IsWhole)
  (arg10 : Memref sig .tc .vmem S4x4096 .f32) (harg10 : arg10.IsWhole)
  (arg11 : Memref sig .tc .vmem S2x256x128 .f32) (harg11 : arg11.IsWhole)
  (arg12 : Memref sig .tc .vmem S2x256x128 .f32) (harg12 : arg12.IsWhole)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
  (g9 : BufTy.Contents (Elt F) arg9.view.ty) (g10 : BufTy.Contents (Elt F) arg10.view.ty) (g11 : BufTy.Contents (Elt F) arg11.view.ty) (g12 X12 : BufTy.Contents (Elt F) arg12.view.ty)
/-- Block `j`'s column of scales on trip `k`. -/
def scaleCol (k : Fin k0_t2_loop.trips) (j : Fin 56) : FVec F S32x1 .f32 :=
  bitcastToFloat .f32 (scaleBits (fieldBlk (tBlk (yAt arg2 arg5 arg6 arg12 X2 X5 X6 X12 k j))))

theorem concatenates56 (s : Fin 56 → FVec F S32x1 .f32) :
    Shape.Concatenates ((List.ofFn fun j : Fin 56 => (⟨S32x1, s j⟩ : (s : Shape) × (s.Idx → F .f32))).map (·.1)) S32x56 1 := by
  rw [List.map_ofFn]
  exact (by decide +kernel : Shape.Concatenates (List.ofFn fun _ : Fin 56 => S32x1) S32x56 1)

/-- 56 columns side by side. -/
def scaleRows (s : Fin 56 → FVec F S32x1 .f32) : FVec F S32x56 .f32 :=
  concatenate S32x56 1 (List.ofFn fun j : Fin 56 => (⟨S32x1, s j⟩ : (s : Shape) × (s.Idx → F .f32))) (concatenates56 s)

theorem concatenate_congr (xs ys : List ((s : Shape) × (s.Idx → F .f32))) (e : xs = ys) (h : Shape.Concatenates (xs.map (·.1)) S32x56 1)
    (h' : Shape.Concatenates (ys.map (·.1)) S32x56 1) : concatenate S32x56 1 xs h = concatenate S32x56 1 ys h' := by subst e; rfl

theorem finRange56 : List.finRange 56 = [0, 1, 2, 3, 4, 5, 6, 7, 8, 9, 10, 11, 12, 13, 14, 15, 16, 17, 18, 19, 20, 21, 22, 23, 24, 25, 26, 27, 28,
    29, 30, 31, 32, 33, 34, 35, 36, 37, 38, 39, 40, 41, 42, 43, 44, 45, 46, 47, 48, 49, 50, 51, 52, 53, 54, 55] := by decide

theorem pay377_eq (s : Fin 56 → FVec F S32x1 .f32) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 : FVec F S32x1 .f32) (y : FVec F S32x128 .f32)
    (h0 : v0 = s 0) (h1 : v1 = s 1) (h2 : v2 = s 2) (h3 : v3 = s 3) (h4 : v4 = s 4) (h5 : v5 = s 5) (h6 : v6 = s 6) (h7 : v7 = s 7) (h8 : v8 = s 8) (h9 : v9 = s 9) (h10 : v10 = s 10) (h11 : v11 = s 11) (h12 : v12 = s 12) (h13 : v13 = s 13) (h14 : v14 = s 14) (h15 : v15 = s 15) (h16 : v16 = s 16) (h17 : v17 = s 17) (h18 : v18 = s 18) (h19 : v19 = s 19) (h20 : v20 = s 20) (h21 : v21 = s 21) (h22 : v22 = s 22) (h23 : v23 = s 23) (h24 : v24 = s 24) (h25 : v25 = s 25) (h26 : v26 = s 26) (h27 : v27 = s 27) (h28 : v28 = s 28) (h29 : v29 = s 29) (h30 : v30 = s 30) (h31 : v31 = s 31) (h32 : v32 = s 32) (h33 : v33 = s 33) (h34 : v34 = s 34) (h35 : v35 = s 35) (h36 : v36 = s 36) (h37 : v37 = s 37) (h38 : v38 = s 38) (h39 : v39 = s 39) (h40 : v40 = s 40) (h41 : v41 = s 41) (h42 : v42 = s 42) (h43 : v43 = s 43) (h44 : v44 = s 44) (h45 : v45 = s 45) (h46 : v46 = s 46) (h47 : v47 = s 47) (h48 : v48 = s 48) (h49 : v49 = s 49) (h50 : v50 = s 50) (h51 : v51 = s 51) (h52 : v52 = s 52) (h53 : v53 = s 53) (h54 : v54 = s 54)
    (h55 : bitcastToFloat .f32 (k0_pay375 y) = s 55) :
    k0_pay377 v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 y = scaleRows s := by
  unfold scaleRows k0_pay377
  dsimp only
  refine concatenate_congr _ _ ?_ _ _
  rw [List.ofFn_eq_map, finRange56]
  simp only [List.map_cons, List.map_nil]
  rw [h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55]

/-- What trip `k` stores into the scales: one store of 56 columns. -/
def piece8 (k : Fin k0_t2_loop.trips) : View.Piece (Elt F) S256x56 .f32 :=
  ⟨Rect.unit (s := S256x56) (k0_off119 k) S32x56.size (k0_off119_inb k), scaleRows (scaleCol arg2 arg5 arg6 arg12 X2 X5 X6 X12 k)⟩

theorem scaleCol_eq (k : Fin k0_t2_loop.trips) (j : Fin 56) (off : Fin 2 → Nat) (hoff : off = ![32 * k.val, 128 * j.val])
    (h : ∀ a, off a + S32x128.size a ≤ S256x7168.size a) (w : FVec F S32x1 .f32)
    (hw : w = bitcastToFloat .f32 (scaleBits (fieldBlk (tBlk (yBlk
      (View.readAt (Elt F) arg12.view (Rect.unit (s := S2x256x128) (k0_off61 k) S1x32x128.size (k0_off61_inb k)).toLoadRect X12)
      (View.readAt (Elt F) arg12.view (Rect.unit (s := S2x256x128) (k0_off62 k) S1x32x128.size (k0_off62_inb k)).toLoadRect X12)
      (View.readAt (Elt F) arg2.view (Rect.unit (s := S256x7168) off S32x128.size h).toLoadRect X2)
      (View.readAt (Elt F) arg5.view (Rect.unit (s := S1x7168) ![0, 128 * j.val] S1x128.size (inb_g j)).toLoadRect X5)
      (View.readAt (Elt F) arg6.view (Rect.unit (s := S1x7168) ![0, 128 * j.val] S1x128.size (inb_g j)).toLoadRect X6)))))) :
    w = scaleCol arg2 arg5 arg6 arg12 X2 X5 X6 X12 k j := by
  subst hoff; subst hw; rfl

theorem trip2_scales (k : Fin k0_t2_loop.trips) :
    (trip_k0_t2 (F := F) Variants.none c none i arg1 harg1 arg2 harg2 arg3 harg3 arg4 harg4 arg5 harg5 arg6 harg6 arg7 harg7 arg8 harg8 arg9 harg9 arg10 harg10 arg11 harg11 arg12 harg12 X2 X5 X6 X12 k).2.1
      = [piece8 arg2 arg5 arg6 arg12 X2 X5 X6 X12 k] := by
  unfold trip_k0_t2
  dsimp only
  unfold trip_k0_t2.sl.r_204
  exact congrArg (fun w => [(⟨Rect.unit (s := S256x56) (k0_off119 k) S32x56.size (k0_off119_inb k), w⟩ : View.Piece (Elt F) S256x56 .f32)])
    (pay377_eq (scaleCol arg2 arg5 arg6 arg12 X2 X5 X6 X12 k) _ _ _ _ _ _ _ _ _ _ _ _ _ _ _ _ _ _ _ _ _ _ _ _ _ _ _ _ _ _ _ _ _ _ _ _ _ _ _ _ _ _ _ _ _ _ _ _ _ _ _ _ _ _ _ _
      (scaleCol_eq arg2 arg5 arg6 arg12 X2 X5 X6 X12 k 0 (k0_off63 k) (k0_off63_eq k) (k0_off63_inb k) _ rfl)
      (scaleCol_eq arg2 arg5 arg6 arg12 X2 X5 X6 X12 k 1 (k0_off64 k) (k0_off64_eq k) (k0_off64_inb k) _ rfl)
      (scaleCol_eq arg2 arg5 arg6 arg12 X2 X5 X6 X12 k 2 (k0_off65 k) (k0_off65_eq k) (k0_off65_inb k) _ rfl)
      (scaleCol_eq arg2 arg5 arg6 arg12 X2 X5 X6 X12 k 3 (k0_off66 k) (k0_off66_eq k) (k0_off66_inb k) _ rfl)
      (scaleCol_eq arg2 arg5 arg6 arg12 X2 X5 X6 X12 k 4 (k0_off67 k) (k0_off67_eq k) (k0_off67_inb k) _ rfl)
      (scaleCol_eq arg2 arg5 arg6 arg12 X2 X5 X6 X12 k 5 (k0_off68 k) (k0_off68_eq k) (k0_off68_inb k) _ rfl)
      (scaleCol_eq arg2 arg5 arg6 arg12 X2 X5 X6 X12 k 6 (k0_off69 k) (k0_off69_eq k) (k0_off69_inb k) _ rfl)
      (scaleCol_eq arg2 arg5 arg6 arg12 X2 X5 X6 X12 k 7 (k0_off70 k) (k0_off70_eq k) (k0_off70_inb k) _ rfl)
      (scaleCol_eq arg2 arg5 arg6 arg12 X2 X5 X6 X12 k 8 (k0_off71 k) (k0_off71_eq k) (k0_off71_inb k) _ rfl)
      (scaleCol_eq arg2 arg5 arg6 arg12 X2 X5 X6 X12 k 9 (k0_off72 k) (k0_off72_eq k) (k0_off72_inb k) _ rfl)
      (scaleCol_eq arg2 arg5 arg6 arg12 X2 X5 X6 X12 k 10 (k0_off73 k) (k0_off73_eq k) (k0_off73_inb k) _ rfl)
      (scaleCol_eq arg2 arg5 arg6 arg12 X2 X5 X6 X12 k 11 (k0_off74 k) (k0_off74_eq k) (k0_off74_inb k) _ rfl)
      (scaleCol_eq arg2 arg5 arg6 arg12 X2 X5 X6 X12 k 12 (k0_off75 k) (k0_off75_eq k) (k0_off75_inb k) _ rfl)
      (scaleCol_eq arg2 arg5 arg6 arg12 X2 X5 X6 X12 k 13 (k0_off76 k) (k0_off76_eq k) (k0_off76_inb k) _ rfl)
      (scaleCol_eq arg2 arg5 arg6 arg12 X2 X5 X6 X12 k 14 (k0_off77 k) (k0_off77_eq k) (k0_off77_inb k) _ rfl)
      (scaleCol_eq arg2 arg5 arg6 arg12 X2 X5 X6 X12 k 15 (k0_off78 k) (k0_off78_eq k) (k0_off78_inb k) _ rfl)
      (scaleCol_eq arg2 arg5 arg6 arg12 X2 X5 X6 X12 k 16 (k0_off79 k) (k0_off79_eq k) (k0_off79_inb k) _ rfl)
      (scaleCol_eq arg2 arg5 arg6 arg12 X2 X5 X6 X12 k 17 (k0_off80 k) (k0_off80_eq k) (k0_off80_inb k) _ rfl)
      (scaleCol_eq arg2 arg5 arg6 arg12 X2 X5 X6 X12 k 18 (k0_off81 k) (k0_off81_eq k) (k0_off81_inb k) _ rfl)
      (scaleCol_eq arg2 arg5 arg6 arg12 X2 X5 X6 X12 k 19 (k0_off82 k) (k0_off82_eq k) (k0_off82_inb k) _ rfl)
      (scaleCol_eq arg2 arg5 arg6 arg12 X2 X5 X6 X12 k 20 (k0_off83 k) (k0_off83_eq k) (k0_off83_inb k) _ rfl)
      (scaleCol_eq arg2 arg5 arg6 arg12 X2 X5 X6 X12 k 21 (k0_off84 k) (k0_off84_eq k) (k0_off84_inb k) _ rfl)
      (scaleCol_eq arg2 arg5 arg6 arg12 X2 X5 X6 X12 k 22 (k0_off85 k) (k0_off85_eq k) (k0_off85_inb k) _ rfl)
      (scaleCol_eq arg2 arg5 arg6 arg12 X2 X5 X6 X12 k 23 (k0_off86 k) (k0_off86_eq k) (k0_off86_inb k) _ rfl)
      (scaleCol_eq arg2 arg5 arg6 arg12 X2 X5 X6 X12 k 24 (k0_off87 k) (k0_off87_eq k) (k0_off87_inb k) _ rfl)
      (scaleCol_eq arg2 arg5 arg6 arg12 X2 X5 X6 X12 k 25 (k0_off88 k) (k0_off88_eq k) (k0_off88_inb k) _ rfl)
      (scaleCol_eq arg2 arg5 arg6 arg12 X2 X5 X6 X12 k 26 (k0_off89 k) (k0_off89_eq k) (k0_off89_inb k) _ rfl)
      (scaleCol_eq arg2 arg5 arg6 arg12 X2 X5 X6 X12 k 27 (k0_off90 k) (k0_off90_eq k) (k0_off90_inb k) _ rfl)
      (scaleCol_eq arg2 arg5 arg6 arg12 X2 X5 X6 X12 k 28 (k0_off91 k) (k0_off91_eq k) (k0_off91_inb k) _ rfl)
      (scaleCol_eq arg2 arg5 arg6 arg12 X2 X5 X6 X12 k 29 (k0_off92 k) (k0_off92_eq k) (k0_off92_inb k) _ rfl)
      (scaleCol_eq arg2 arg5 arg6 arg12 X2 X5 X6 X12 k 30 (k0_off93 k) (k0_off93_eq k) (k0_off93_inb k) _ rfl)
      (scaleCol_eq arg2 arg5 arg6 arg12 X2 X5 X6 X12 k 31 (k0_off94 k) (k0_off94_eq k) (k0_off94_inb k) _ rfl)
      (scaleCol_eq arg2 arg5 arg6 arg12 X2 X5 X6 X12 k 32 (k0_off95 k) (k0_off95_eq k) (k0_off95_inb k) _ rfl)
      (scaleCol_eq arg2 arg5 arg6 arg12 X2 X5 X6 X12 k 33 (k0_off96 k) (k0_off96_eq k) (k0_off96_inb k) _ rfl)
      (scaleCol_eq arg2 arg5 arg6 arg12 X2 X5 X6 X12 k 34 (k0_off97 k) (k0_off97_eq k) (k0_off97_inb k) _ rfl)
      (scaleCol_eq arg2 arg5 arg6 arg12 X2 X5 X6 X12 k 35 (k0_off98 k) (k0_off98_eq k) (k0_off98_inb k) _ rfl)
      (scaleCol_eq arg2 arg5 arg6 arg12 X2 X5 X6 X12 k 36 (k0_off99 k) (k0_off99_eq k) (k0_off99_inb k) _ rfl)
      (scaleCol_eq arg2 arg5 arg6 arg12 X2 X5 X6 X12 k 37 (k0_off100 k) (k0_off100_eq k) (k0_off100_inb k) _ rfl)
      (scaleCol_eq arg2 arg5 arg6 arg12 X2 X5 X6 X12 k 38 (k0_off101 k) (k0_off101_eq k) (k0_off101_inb k) _ rfl)
      (scaleCol_eq arg2 arg5 arg6 arg12 X2 X5 X6 X12 k 39 (k0_off102 k) (k0_off102_eq k) (k0_off102_inb k) _ rfl)
      (scaleCol_eq arg2 arg5 arg6 arg12 X2 X5 X6 X12 k 40 (k0_off103 k) (k0_off103_eq k) (k0_off103_inb k) _ rfl)
      (scaleCol_eq arg2 arg5 arg6 arg12 X2 X5 X6 X12 k 41 (k0_off104 k) (k0_off104_eq k) (k0_off104_inb k) _ rfl)
      (scaleCol_eq arg2 arg5 arg6 arg12 X2 X5 X6 X12 k 42 (k0_off105 k) (k0_off105_eq k) (k0_off105_inb k) _ rfl)
      (scaleCol_eq arg2 arg5 arg6 arg12 X2 X5 X6 X12 k 43 (k0_off106 k) (k0_off106_eq k) (k0_off106_inb k) _ rfl)
      (scaleCol_eq arg2 arg5 arg6 arg12 X2 X5 X6 X12 k 44 (k0_off107 k) (k0_off107_eq k) (k0_off107_inb k) _ rfl)
      (scaleCol_eq arg2 arg5 arg6 arg12 X2 X5 X6 X12 k 45 (k0_off108 k) (k0_off108_eq k) (k0_off108_inb k) _ rfl)
      (scaleCol_eq arg2 arg5 arg6 arg12 X2 X5 X6 X12 k 46 (k0_off109 k) (k0_off109_eq k) (k0_off109_inb k) _ rfl)
      (scaleCol_eq arg2 arg5 arg6 arg12 X2 X5 X6 X12 k 47 (k0_off110 k) (k0_off110_eq k) (k0_off110_inb k) _ rfl)
      (scaleCol_eq arg2 arg5 arg6 arg12 X2 X5 X6 X12 k 48 (k0_off111 k) (k0_off111_eq k) (k0_off111_inb k) _ rfl)
      (scaleCol_eq arg2 arg5 arg6 arg12 X2 X5 X6 X12 k 49 (k0_off112 k) (k0_off112_eq k) (k0_off112_inb k) _ rfl)
      (scaleCol_eq arg2 arg5 arg6 arg12 X2 X5 X6 X12 k 50 (k0_off113 k) (k0_off113_eq k) (k0_off113_inb k) _ rfl)
      (scaleCol_eq arg2 arg5 arg6 arg12 X2 X5 X6 X12 k 51 (k0_off114 k) (k0_off114_eq k) (k0_off114_inb k) _ rfl)
      (scaleCol_eq arg2 arg5 arg6 arg12 X2 X5 X6 X12 k 52 (k0_off115 k) (k0_off115_eq k) (k0_off115_inb k) _ rfl)
      (scaleCol_eq arg2 arg5 arg6 arg12 X2 X5 X6 X12 k 53 (k0_off116 k) (k0_off116_eq k) (k0_off116_inb k) _ rfl)
      (scaleCol_eq arg2 arg5 arg6 arg12 X2 X5 X6 X12 k 54 (k0_off117 k) (k0_off117_eq k) (k0_off117_inb k) _ rfl)
      (scaleCol_eq arg2 arg5 arg6 arg12 X2 X5 X6 X12 k 55 (k0_off118 k) (k0_off118_eq k) (k0_off118_inb k) _ rfl))

end Cert.KernelIdeal.Hand

end

end
-- ==== Proof.KernelIdealStats.lean ====
/-
  What one trip of the statistics loop stores, at any float instance: each row's lane sums and lane sums of squared deviations,
  named as folds over the row's 56 blocks.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp
public import Idealize.ShloMosaic.Lib.Pointwise
public import proofs.«01_k».proof.Proof.KernelIdealScales

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

variable (c : Dev nD) (i : grid0.Coords)
  (arg1 : Memref sig .tc .smem S1 .f32) (harg1 : arg1.IsWhole)
  (arg2 : Memref sig .tc .vmem S256x7168 .bf16) (harg2 : arg2.IsWhole)
  (arg3 : Memref sig .tc .vmem S1x4x4096 .f32) (harg3 : arg3.IsWhole)
  (arg4 : Memref sig .tc .vmem S1x4x4096 .f32) (harg4 : arg4.IsWhole)
  (arg5 : Memref sig .tc .vmem S1x7168 .f32) (harg5 : arg5.IsWhole)
  (arg6 : Memref sig .tc .vmem S1x7168 .f32) (harg6 : arg6.IsWhole)
  (arg7 : Memref sig .tc .vmem S256x7168 .fp8e4m3) (harg7 : arg7.IsWhole)
  (arg8 : Memref sig .tc .vmem S256x56 .f32) (harg8 : arg8.IsWhole)
  (arg9 : Memref sig .tc .vmem S4x4096 .f32) (harg9 : arg9.IsWhole)
  (arg10 : Memref sig .tc .vmem S4x4096 .f32) (harg10 : arg10.IsWhole)
  (arg11 : Memref sig .tc .vmem S2x256x128 .f32) (harg11 : arg11.IsWhole)
  (arg12 : Memref sig .tc .vmem S2x256x128 .f32) (harg12 : arg12.IsWhole)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
  (g9 : BufTy.Contents (Elt F) arg9.view.ty) (g10 : BufTy.Contents (Elt F) arg10.view.ty) (g11 : BufTy.Contents (Elt F) arg11.view.ty) (g12 X12 : BufTy.Contents (Elt F) arg12.view.ty)
/-- A block widened to float32. -/
def wide (v : Vec F S32x128 .bf16) : FVec F S32x128 .f32 := extf .f32 (shapeCast S32x128 v shapeCasts_S32x128_S32x128) bitsLt_bf16_f32

/-- The lane sums of a list of blocks. -/
def sumBlk (L : List (Vec F S32x128 .bf16)) : FVec F S32x128 .f32 :=
  L.foldl (fun a v => addf a (wide v)) (broadcast S32x128 (Scalar.ofBits .f32 0x00000000#32))

/-- Each row's mean, from the lane sums. -/
def meanCol (cst : F .f32) (s : FVec F S32x128 .f32) : FVec F S32x1 .f32 :=
  divf (shapeCast S32x1 (multiReduction .add [1] S32 s 0x00000000#32 reduces_S32x128_S32 (.inl rfl) rfl) shapeCasts_S32_S32x1) (broadcast S32x1 cst)

/-- The lane sums of the squared deviations from a mean. -/
def m2Blk (mu : FVec F S32x1 .f32) (L : List (Vec F S32x128 .bf16)) : FVec F S32x128 .f32 :=
  L.foldl (fun a v => addf a (mulf (subf (wide v) (broadcastTo S32x128 mu broadcasts_S32x1_S32x128))
    (subf (wide v) (broadcastTo S32x128 mu broadcasts_S32x1_S32x128)))) (broadcast S32x128 (Scalar.ofBits .f32 0x00000000#32))

theorem inb_x1 (k : Fin k0_t1_loop.trips) (j : Fin 56) : ∀ a, (![32 * k.val, 128 * j.val] : Fin 2 → Nat) a + S32x128.size a ≤ S256x7168.size a := by
  have hk : k.val < 8 := Nat.lt_of_lt_of_le k.isLt k0_t1_abs.2.1
  have hj := j.isLt
  intro a
  match a with
  | ⟨0, _⟩ => show 32 * k.val + 32 ≤ 256; omega
  | ⟨1, _⟩ => show 128 * j.val + 128 ≤ 7168; omega

/-- Block `j` of trip `k`'s 32 rows of x. -/
def xBlk (k : Fin k0_t1_loop.trips) (j : Fin 56) : Vec F S32x128 .bf16 :=
  View.readAt (Elt F) arg2.view (Rect.unit (s := S256x7168) ![32 * k.val, 128 * j.val] S32x128.size (inb_x1 k j)).toLoadRect X2

theorem xBlk_eq (k : Fin k0_t1_loop.trips) (j : Fin 56) (off : Fin 2 → Nat) (hoff : off = ![32 * k.val, 128 * j.val])
    (h : ∀ a, off a + S32x128.size a ≤ S256x7168.size a) :
    (View.readAt (Elt F) arg2.view (Rect.unit (s := S256x7168) off S32x128.size h).toLoadRect X2 : Vec F S32x128 .bf16) = xBlk arg2 X2 k j := by
  subst hoff; rfl

/-- The loads of trip `k`, as the body spells them. -/
def loads1 (k : Fin k0_t1_loop.trips) : List (Vec F S32x128 .bf16) :=
  [View.readAt (Elt F) arg2.view (Rect.unit (s := S256x7168) (k0_off1 k) S32x128.size (k0_off1_inb k)).toLoadRect X2,
    View.readAt (Elt F) arg2.view (Rect.unit (s := S256x7168) (k0_off2 k) S32x128.size (k0_off2_inb k)).toLoadRect X2,
    View.readAt (Elt F) arg2.view (Rect.unit (s := S256x7168) (k0_off3 k) S32x128.size (k0_off3_inb k)).toLoadRect X2,
    View.readAt (Elt F) arg2.view (Rect.unit (s := S256x7168) (k0_off4 k) S32x128.size (k0_off4_inb k)).toLoadRect X2,
    View.readAt (Elt F) arg2.view (Rect.unit (s := S256x7168) (k0_off5 k) S32x128.size (k0_off5_inb k)).toLoadRect X2,
    View.readAt (Elt F) arg2.view (Rect.unit (s := S256x7168) (k0_off6 k) S32x128.size (k0_off6_inb k)).toLoadRect X2,
    View.readAt (Elt F) arg2.view (Rect.unit (s := S256x7168) (k0_off7 k) S32x128.size (k0_off7_inb k)).toLoadRect X2,
    View.readAt (Elt F) arg2.view (Rect.unit (s := S256x7168) (k0_off8 k) S32x128.size (k0_off8_inb k)).toLoadRect X2,
    View.readAt (Elt F) arg2.view (Rect.unit (s := S256x7168) (k0_off9 k) S32x128.size (k0_off9_inb k)).toLoadRect X2,
    View.readAt (Elt F) arg2.view (Rect.unit (s := S256x7168) (k0_off10 k) S32x128.size (k0_off10_inb k)).toLoadRect X2,
    View.readAt (Elt F) arg2.view (Rect.unit (s := S256x7168) (k0_off11 k) S32x128.size (k0_off11_inb k)).toLoadRect X2,
    View.readAt (Elt F) arg2.view (Rect.unit (s := S256x7168) (k0_off12 k) S32x128.size (k0_off12_inb k)).toLoadRect X2,
    View.readAt (Elt F) arg2.view (Rect.unit (s := S256x7168) (k0_off13 k) S32x128.size (k0_off13_inb k)).toLoadRect X2,
    View.readAt (Elt F) arg2.view (Rect.unit (s := S256x7168) (k0_off14 k) S32x128.size (k0_off14_inb k)).toLoadRect X2,
    View.readAt (Elt F) arg2.view (Rect.unit (s := S256x7168) (k0_off15 k) S32x128.size (k0_off15_inb k)).toLoadRect X2,
    View.readAt (Elt F) arg2.view (Rect.unit (s := S256x7168) (k0_off16 k) S32x128.size (k0_off16_inb k)).toLoadRect X2,
    View.readAt (Elt F) arg2.view (Rect.unit (s := S256x7168) (k0_off17 k) S32x128.size (k0_off17_inb k)).toLoadRect X2,
    View.readAt (Elt F) arg2.view (Rect.unit (s := S256x7168) (k0_off18 k) S32x128.size (k0_off18_inb k)).toLoadRect X2,
    View.readAt (Elt F) arg2.view (Rect.unit (s := S256x7168) (k0_off19 k) S32x128.size (k0_off19_inb k)).toLoadRect X2,
    View.readAt (Elt F) arg2.view (Rect.unit (s := S256x7168) (k0_off20 k) S32x128.size (k0_off20_inb k)).toLoadRect X2,
    View.readAt (Elt F) arg2.view (Rect.unit (s := S256x7168) (k0_off21 k) S32x128.size (k0_off21_inb k)).toLoadRect X2,
    View.readAt (Elt F) arg2.view (Rect.unit (s := S256x7168) (k0_off22 k) S32x128.size (k0_off22_inb k)).toLoadRect X2,
    View.readAt (Elt F) arg2.view (Rect.unit (s := S256x7168) (k0_off23 k) S32x128.size (k0_off23_inb k)).toLoadRect X2,
    View.readAt (Elt F) arg2.view (Rect.unit (s := S256x7168) (k0_off24 k) S32x128.size (k0_off24_inb k)).toLoadRect X2,
    View.readAt (Elt F) arg2.view (Rect.unit (s := S256x7168) (k0_off25 k) S32x128.size (k0_off25_inb k)).toLoadRect X2,
    View.readAt (Elt F) arg2.view (Rect.unit (s := S256x7168) (k0_off26 k) S32x128.size (k0_off26_inb k)).toLoadRect X2,
    View.readAt (Elt F) arg2.view (Rect.unit (s := S256x7168) (k0_off27 k) S32x128.size (k0_off27_inb k)).toLoadRect X2,
    View.readAt (Elt F) arg2.view (Rect.unit (s := S256x7168) (k0_off28 k) S32x128.size (k0_off28_inb k)).toLoadRect X2,
    View.readAt (Elt F) arg2.view (Rect.unit (s := S256x7168) (k0_off29 k) S32x128.size (k0_off29_inb k)).toLoadRect X2,
    View.readAt (Elt F) arg2.view (Rect.unit (s := S256x7168) (k0_off30 k) S32x128.size (k0_off30_inb k)).toLoadRect X2,
    View.readAt (Elt F) arg2.view (Rect.unit (s := S256x7168) (k0_off31 k) S32x128.size (k0_off31_inb k)).toLoadRect X2,
    View.readAt (Elt F) arg2.view (Rect.unit (s := S256x7168) (k0_off32 k) S32x128.size (k0_off32_inb k)).toLoadRect X2,
    View.readAt (Elt F) arg2.view (Rect.unit (s := S256x7168) (k0_off33 k) S32x128.size (k0_off33_inb k)).toLoadRect X2,
    View.readAt (Elt F) arg2.view (Rect.unit (s := S256x7168) (k0_off34 k) S32x128.size (k0_off34_inb k)).toLoadRect X2,
    View.readAt (Elt F) arg2.view (Rect.unit (s := S256x7168) (k0_off35 k) S32x128.size (k0_off35_inb k)).toLoadRect X2,
    View.readAt (Elt F) arg2.view (Rect.unit (s := S256x7168) (k0_off36 k) S32x128.size (k0_off36_inb k)).toLoadRect X2,
    View.readAt (Elt F) arg2.view (Rect.unit (s := S256x7168) (k0_off37 k) S32x128.size (k0_off37_inb k)).toLoadRect X2,
    View.readAt (Elt F) arg2.view (Rect.unit (s := S256x7168) (k0_off38 k) S32x128.size (k0_off38_inb k)).toLoadRect X2,
    View.readAt (Elt F) arg2.view (Rect.unit (s := S256x7168) (k0_off39 k) S32x128.size (k0_off39_inb k)).toLoadRect X2,
    View.readAt (Elt F) arg2.view (Rect.unit (s := S256x7168) (k0_off40 k) S32x128.size (k0_off40_inb k)).toLoadRect X2,
    View.readAt (Elt F) arg2.view (Rect.unit (s := S256x7168) (k0_off41 k) S32x128.size (k0_off41_inb k)).toLoadRect X2,
    View.readAt (Elt F) arg2.view (Rect.unit (s := S256x7168) (k0_off42 k) S32x128.size (k0_off42_inb k)).toLoadRect X2,
    View.readAt (Elt F) arg2.view (Rect.unit (s := S256x7168) (k0_off43 k) S32x128.size (k0_off43_inb k)).toLoadRect X2,
    View.readAt (Elt F) arg2.view (Rect.unit (s := S256x7168) (k0_off44 k) S32x128.size (k0_off44_inb k)).toLoadRect X2,
    View.readAt (Elt F) arg2.view (Rect.unit (s := S256x7168) (k0_off45 k) S32x128.size (k0_off45_inb k)).toLoadRect X2,
    View.readAt (Elt F) arg2.view (Rect.unit (s := S256x7168) (k0_off46 k) S32x128.size (k0_off46_inb k)).toLoadRect X2,
    View.readAt (Elt F) arg2.view (Rect.unit (s := S256x7168) (k0_off47 k) S32x128.size (k0_off47_inb k)).toLoadRect X2,
    View.readAt (Elt F) arg2.view (Rect.unit (s := S256x7168) (k0_off48 k) S32x128.size (k0_off48_inb k)).toLoadRect X2,
    View.readAt (Elt F) arg2.view (Rect.unit (s := S256x7168) (k0_off49 k) S32x128.size (k0_off49_inb k)).toLoadRect X2,
    View.readAt (Elt F) arg2.view (Rect.unit (s := S256x7168) (k0_off50 k) S32x128.size (k0_off50_inb k)).toLoadRect X2,
    View.readAt (Elt F) arg2.view (Rect.unit (s := S256x7168) (k0_off51 k) S32x128.size (k0_off51_inb k)).toLoadRect X2,
    View.readAt (Elt F) arg2.view (Rect.unit (s := S256x7168) (k0_off52 k) S32x128.size (k0_off52_inb k)).toLoadRect X2,
    View.readAt (Elt F) arg2.view (Rect.unit (s := S256x7168) (k0_off53 k) S32x128.size (k0_off53_inb k)).toLoadRect X2,
    View.readAt (Elt F) arg2.view (Rect.unit (s := S256x7168) (k0_off54 k) S32x128.size (k0_off54_inb k)).toLoadRect X2,
    View.readAt (Elt F) arg2.view (Rect.unit (s := S256x7168) (k0_off55 k) S32x128.size (k0_off55_inb k)).toLoadRect X2,
    View.readAt (Elt F) arg2.view (Rect.unit (s := S256x7168) (k0_off56 k) S32x128.size (k0_off56_inb k)).toLoadRect X2]

theorem loads1_eq (k : Fin k0_t1_loop.trips) : loads1 arg2 X2 k = (List.finRange 56).map (xBlk (F := F) arg2 X2 k) := by
  rw [finRange56]
  unfold loads1
  simp only [List.map_cons, List.map_nil]
  repeat' refine congrArg₂ List.cons (xBlk_eq arg2 X2 k _ _ (by revert k; decide +kernel) _) ?_
  rfl

/-- What trip `k` stores: the lane sums of its rows, and the lane sums of their squared deviations. -/
theorem trip1_list (cst : F .f32) (k : Fin k0_t1_loop.trips) :
    (trip_k0_t1 (F := F) Variants.none c none i arg1 harg1 arg2 harg2 arg3 harg3 arg4 harg4 arg5 harg5 arg6 harg6 arg7 harg7 arg8 harg8 arg9 harg9 arg10 harg10 arg11 harg11 arg12 harg12 cst X2 k).1
      = [⟨Rect.unit (s := S2x256x128) (k0_off58 k) S1x32x128.size (k0_off58_inb k),
          shapeCast S1x32x128 (m2Blk (meanCol cst (sumBlk (loads1 arg2 X2 k))) (loads1 arg2 X2 k)) shapeCasts_S32x128_S1x32x128⟩,
        ⟨Rect.unit (s := S2x256x128) (k0_off57 k) S1x32x128.size (k0_off57_inb k),
          shapeCast S1x32x128 (sumBlk (loads1 arg2 X2 k)) shapeCasts_S32x128_S1x32x128⟩] := by
  unfold trip_k0_t1
  dsimp only
  refine congrArg₂ List.cons (congrArg (Sigma.mk _) ?_) (congrArg₂ List.cons (congrArg (Sigma.mk _) ?_) rfl)
  · rfl
  · rfl

end Cert.KernelIdeal.Hand
end
end
-- ==== Proof.KernelIdealLanes.lean ====
/-
  The first loop at the ideal values: lane by lane, the sums and the sums of squared deviations of each row of the tile.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp
public import Idealize.ShloMosaic.Lib.Pointwise
public import Idealize.ShloMosaic.Lib.Pipeline.ValueKit
public import proofs.«01_k».proof.Proof.Norm
public import proofs.«01_k».proof.Proof.KernelIdealStats

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Cert.Norm
open Idealize.SL.BI.BIBase Idealize.SL.BI.Laws Idealize.SL.ProofMode Idealize.SL.Sem
open Idealize.ShloMosaic.Pipeline (Dat RDat Cfg Window BodyObligation cellOf)

variable (c : Dev nD) (i : grid0.Coords)
  (arg1 : Memref sig .tc .smem S1 .f32) (harg1 : arg1.IsWhole)
  (arg2 : Memref sig .tc .vmem S256x7168 .bf16) (harg2 : arg2.IsWhole)
  (arg3 : Memref sig .tc .vmem S1x4x4096 .f32) (harg3 : arg3.IsWhole)
  (arg4 : Memref sig .tc .vmem S1x4x4096 .f32) (harg4 : arg4.IsWhole)
  (arg5 : Memref sig .tc .vmem S1x7168 .f32) (harg5 : arg5.IsWhole)
  (arg6 : Memref sig .tc .vmem S1x7168 .f32) (harg6 : arg6.IsWhole)
  (arg7 : Memref sig .tc .vmem S256x7168 .fp8e4m3) (harg7 : arg7.IsWhole)
  (arg8 : Memref sig .tc .vmem S256x56 .f32) (harg8 : arg8.IsWhole)
  (arg9 : Memref sig .tc .vmem S4x4096 .f32) (harg9 : arg9.IsWhole)
  (arg10 : Memref sig .tc .vmem S4x4096 .f32) (harg10 : arg10.IsWhole)
  (arg11 : Memref sig .tc .vmem S2x256x128 .f32) (harg11 : arg11.IsWhole)
  (arg12 : Memref sig .tc .vmem S2x256x128 .f32) (harg12 : arg12.IsWhole)
  (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)
  (g9 : BufTy.Contents (Elt Ideal) arg9.view.ty) (g10 : BufTy.Contents (Elt Ideal) arg10.view.ty) (g11 : BufTy.Contents (Elt Ideal) arg11.view.ty) (g12 X12 : BufTy.Contents (Elt Ideal) arg12.view.ty)
section
variable (g : Vec Ideal S32x128 .bf16 → FVec Ideal S32x128 .f32)

/-- Adding up a list of vectors one by one, read at an index. -/
theorem foldl_addf_apply (i : S32x128.Idx) (L : List (Vec Ideal S32x128 .bf16)) (z : FVec Ideal S32x128 .f32) :
    (L.foldl (fun a v => addf a (g v)) z) i = (z i : EReal) + (L.map (fun v => (g v i : EReal))).sum := by
  induction L generalizing z with
  | nil => simp
  | cons v L ih =>
    rw [List.foldl_cons, ih, List.map_cons, List.sum_cons, ← add_assoc]
    rfl

end

theorem sum_finRange (f : Fin 56 → EReal) : ((List.finRange 56).map f).sum = ∑ j, f j := (Fin.sum_univ_def f).symm

/-- Row `r` of the block of x. -/
def rowX (r : Fin 256) (ch : Fin 7168) : EReal := arg2.view.read (Elt Ideal) X2 (ix2 r ch)

theorem trips1 : k0_t1_loop.trips = 8 := by decide +kernel

theorem row_lt (k : Fin k0_t1_loop.trips) (r : Fin 32) : 32 * k.val + r.val < 256 := by
  have hk : k.val < 8 := Nat.lt_of_lt_of_le k.isLt k0_t1_abs.2.1
  omega

theorem xBlk_apply (k : Fin k0_t1_loop.trips) (j : Fin 56) (r : Fin 32) (l : Fin 128) :
    xBlk (F := Ideal) arg2 X2 k j (ix2 r l) = rowX arg2 X2 ⟨32 * k.val + r.val, row_lt k r⟩ ⟨j.val * 128 + l.val, by omega⟩ := by
  unfold xBlk rowX
  rw [View.readAt_eq_ld]
  refine View.ld_unit_apply_of _ _ _ _ _ _ fun a => ?_
  match a with
  | ⟨0, _⟩ => rfl
  | ⟨1, _⟩ => show j.val * 128 + l.val = 128 * j.val + l.val; omega

theorem wide_apply (v : Vec Ideal S32x128 .bf16) (r : Fin 32) (l : Fin 128) : wide v (ix2 r l) = (v (ix2 r l) : EReal) := by
  pointwise [wide]

theorem sumBlk_apply (k : Fin k0_t1_loop.trips) (r : Fin 32) (l : Fin 128) :
    sumBlk (F := Ideal) ((List.finRange 56).map (xBlk arg2 X2 k)) (ix2 r l)
      = ∑ j : Fin 56, rowX arg2 X2 ⟨32 * k.val + r.val, row_lt k r⟩ ⟨j.val * 128 + l.val, by omega⟩ := by
  unfold sumBlk
  rw [foldl_addf_apply, List.map_map, sum_finRange]
  simp only [Function.comp_def, wide_apply, xBlk_apply]
  pointwise []

theorem meanCol_apply (cst : Elt Ideal .f32) (s : FVec Ideal S32x128 .f32) (r : Fin 32) :
    meanCol (F := Ideal) cst s (ix2 r 0) = Ideal.div (∑ l, s (ix2 r l)) cst := by
  pointwise [meanCol]

theorem m2Blk_apply (mu : FVec Ideal S32x1 .f32) (k : Fin k0_t1_loop.trips) (r : Fin 32) (l : Fin 128) :
    m2Blk (F := Ideal) mu ((List.finRange 56).map (xBlk arg2 X2 k)) (ix2 r l)
      = ∑ j : Fin 56, ((rowX arg2 X2 ⟨32 * k.val + r.val, row_lt k r⟩ ⟨j.val * 128 + l.val, by omega⟩ - mu (ix2 r 0))
          * (rowX arg2 X2 ⟨32 * k.val + r.val, row_lt k r⟩ ⟨j.val * 128 + l.val, by omega⟩ - mu (ix2 r 0)) : EReal) := by
  have h : ∀ v : Vec Ideal S32x128 .bf16, mulf (subf (wide v) (broadcastTo S32x128 mu broadcasts_S32x1_S32x128))
      (subf (wide v) (broadcastTo S32x128 mu broadcasts_S32x1_S32x128)) (ix2 r l) = ((v (ix2 r l) - mu (ix2 r 0)) * (v (ix2 r l) - mu (ix2 r 0)) : EReal) := by
    intro v; pointwise [wide]
  unfold m2Blk
  rw [foldl_addf_apply (fun v => mulf (subf (wide v) (broadcastTo S32x128 mu broadcasts_S32x1_S32x128)) (subf (wide v) (broadcastTo S32x128 mu broadcasts_S32x1_S32x128))),
    List.map_map, sum_finRange]
  simp only [Function.comp_def, h, xBlk_apply]
  pointwise []

/-- Lane `l` of a row's sum, and of its sum of squared deviations from the row's mean. -/
def laneSum (f : Fin 7168 → EReal) (l : Fin 128) : EReal := ∑ j : Fin 56, f ⟨j.val * 128 + l.val, by omega⟩
def laneM2 (f : Fin 7168 → EReal) (l : Fin 128) : EReal :=
  ∑ j : Fin 56, (f ⟨j.val * 128 + l.val, by omega⟩ - locMean f) * (f ⟨j.val * 128 + l.val, by omega⟩ - locMean f)

/-- What the first loop leaves in its scratch: per row and lane, the sum over the blocks, and the sum of squared deviations. -/
def lanes (y : S2x256x128.Idx) : EReal :=
  if (y 0).val = 0 then laneSum (rowX arg2 X2 (y 1)) (y 2) else laneM2 (rowX arg2 X2 (y 1)) (y 2)

theorem eta3 (x : S1x32x128.Idx) : x = ix3 0 (x 1) (x 2) := by
  funext a
  match a with
  | ⟨0, _⟩ => exact Subsingleton.elim (α := Fin 1) _ _
  | ⟨1, _⟩ => rfl
  | ⟨2, _⟩ => rfl

theorem cast3 (v : FVec Ideal S32x128 .f32) (r : Fin 32) (l : Fin 128) :
    shapeCast S1x32x128 v shapeCasts_S32x128_S1x32x128 (ix3 0 r l) = v (ix2 r l) := by pointwise []

theorem mem_pb1 (cst : Elt Ideal .f32) (n : ℕ) (hn : n ≤ k0_t1_loop.trips) (p : View.Piece (Elt Ideal) S2x256x128 .f32) :
    p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 cst X2 n
      ↔ ∃ k : Fin k0_t1_loop.trips, k.val < n ∧ p ∈ (trip_k0_t1 (F := Ideal) Variants.none c none i arg1 harg1 arg2 harg2 arg3 harg3 arg4 harg4 arg5 harg5 arg6 harg6 arg7 harg7 arg8 harg8 arg9 harg9 arg10 harg10 arg11 harg11 arg12 harg12 cst X2 k).1 := by
  induction n with
  | zero => simp [pb_k0_t1]
  | succ n ih =>
    have e := pb_k0_t1_succ (F := Ideal) Variants.none c none i arg1 harg1 arg2 harg2 arg3 harg3 arg4 harg4 arg5 harg5 arg6 harg6 arg7 harg7 arg8 harg8 arg9 harg9 arg10 harg10 arg11 harg11 arg12 harg12 cst X2 ⟨n, hn⟩
    rw [e, List.mem_append, ih (by omega)]
    constructor
    · rintro (h | ⟨k, hk, h⟩)
      · exact ⟨⟨n, hn⟩, Nat.lt_succ_self n, h⟩
      · exact ⟨k, by omega, h⟩
    · rintro ⟨k, hk, h⟩
      rcases Nat.lt_succ_iff_lt_or_eq.mp hk with hk | hk
      · exact .inr ⟨k, hk, h⟩
      · left
        obtain rfl : k = ⟨n, hn⟩ := Fin.ext hk
        exact h

/-- The mean of a row, from its lane sums. -/
theorem meanCol_sum (k : Fin k0_t1_loop.trips) (r : Fin 32) :
    meanCol (F := Ideal) width (sumBlk ((List.finRange 56).map (xBlk arg2 X2 k))) (ix2 r 0) = locMean (rowX arg2 X2 ⟨32 * k.val + r.val, row_lt k r⟩) := by
  rw [meanCol_apply]
  simp only [sumBlk_apply]
  rw [sum_lanes (rowX arg2 X2 ⟨32 * k.val + r.val, row_lt k r⟩)]
  rfl

theorem sum_piece (k : Fin k0_t1_loop.trips) (x : S1x32x128.Idx) (y : S2x256x128.Idx)
    (e : ∀ a, (y a).val = (![0, 32 * k.val, 0] : Fin 3 → Nat) a + 1 * (x a).val) :
    shapeCast S1x32x128 (sumBlk (F := Ideal) ((List.finRange 56).map (xBlk arg2 X2 k))) shapeCasts_S32x128_S1x32x128 x = lanes arg2 X2 y := by
  obtain ⟨r, l, rfl⟩ : ∃ (r : Fin 32) (l : Fin 128), x = ix3 0 r l := ⟨x 1, x 2, eta3 x⟩
  have e0 : (y 0).val = 0 + 1 * 0 := e 0
  have e1 : (⟨32 * k.val + r.val, row_lt k r⟩ : Fin 256) = y 1 :=
    Fin.ext (by have : (y 1).val = 32 * k.val + 1 * r.val := e 1; show 32 * k.val + r.val = (y 1).val; omega)
  have e2 : l = y 2 := Fin.ext (by have : (y 2).val = 0 + 1 * l.val := e 2; omega)
  rw [cast3, sumBlk_apply, e1, e2]
  exact (if_pos (by omega)).symm

theorem m2_piece (k : Fin k0_t1_loop.trips) (x : S1x32x128.Idx) (y : S2x256x128.Idx)
    (e : ∀ a, (y a).val = (![1, 32 * k.val, 0] : Fin 3 → Nat) a + 1 * (x a).val) :
    shapeCast S1x32x128 (m2Blk (F := Ideal) (meanCol width (sumBlk ((List.finRange 56).map (xBlk arg2 X2 k)))) ((List.finRange 56).map (xBlk arg2 X2 k))) shapeCasts_S32x128_S1x32x128 x = lanes arg2 X2 y := by
  obtain ⟨r, l, rfl⟩ : ∃ (r : Fin 32) (l : Fin 128), x = ix3 0 r l := ⟨x 1, x 2, eta3 x⟩
  have e0 : (y 0).val = 1 + 1 * 0 := e 0
  have e1 : (⟨32 * k.val + r.val, row_lt k r⟩ : Fin 256) = y 1 :=
    Fin.ext (by have : (y 1).val = 32 * k.val + 1 * r.val := e 1; show 32 * k.val + r.val = (y 1).val; omega)
  have e2 : l = y 2 := Fin.ext (by have : (y 2).val = 0 + 1 * l.val := e 2; omega)
  rw [cast3, m2Blk_apply, meanCol_sum, e1, e2]
  exact (if_neg (by omega)).symm

theorem cover11 (y : S2x256x128.Idx) : ∃ p ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 width X2 k0_t1_loop.trips, y ∈ p.1.set := by
  have h0 : (y 0).val < 2 := (y 0).isLt
  have h1 : (y 1).val < 256 := (y 1).isLt
  have h2 : (y 2).val < 128 := (y 2).isLt
  have hk : (y 1).val / 32 < k0_t1_loop.trips := by rw [trips1]; omega
  have hm : ∃ p ∈ (trip_k0_t1 (F := Ideal) Variants.none c none i arg1 harg1 arg2 harg2 arg3 harg3 arg4 harg4 arg5 harg5 arg6 harg6 arg7 harg7 arg8 harg8 arg9 harg9 arg10 harg10 arg11 harg11 arg12 harg12 width X2 ⟨_, hk⟩).1, y ∈ p.1.set := by
    rw [trip1_list]
    by_cases h : (y 0).val = 0
    · refine ⟨_, List.mem_cons_of_mem _ List.mem_cons_self, ?_⟩
      show y ∈ (Rect.unit (s := S2x256x128) (k0_off57 ⟨_, hk⟩) S1x32x128.size (k0_off57_inb _)).set
      rw [Rect.mem_set_unit, k0_off57_eq]
      intro a
      match a with
      | ⟨0, _⟩ => show 0 ≤ (y 0).val ∧ (y 0).val < 0 + 1; omega
      | ⟨1, _⟩ => show 32 * ((y 1).val / 32) ≤ (y 1).val ∧ (y 1).val < 32 * ((y 1).val / 32) + 32; omega
      | ⟨2, _⟩ => show 0 ≤ (y 2).val ∧ (y 2).val < 0 + 128; omega
    · refine ⟨_, List.mem_cons_self, ?_⟩
      show y ∈ (Rect.unit (s := S2x256x128) (k0_off58 ⟨_, hk⟩) S1x32x128.size (k0_off58_inb _)).set
      rw [Rect.mem_set_unit, k0_off58_eq]
      intro a
      match a with
      | ⟨0, _⟩ => show 1 ≤ (y 0).val ∧ (y 0).val < 1 + 1; omega
      | ⟨1, _⟩ => show 32 * ((y 1).val / 32) ≤ (y 1).val ∧ (y 1).val < 32 * ((y 1).val / 32) + 32; omega
      | ⟨2, _⟩ => show 0 ≤ (y 2).val ∧ (y 2).val < 0 + 128; omega
  obtain ⟨p, hp, hy⟩ := hm
  exact ⟨p, (mem_pb1 c i arg1 harg1 arg2 harg2 arg3 harg3 arg4 harg4 arg5 harg5 arg6 harg6 arg7 harg7 arg8 harg8 arg9 harg9 arg10 harg10 arg11 harg11 arg12 harg12 X2 width _ le_rfl _).mpr ⟨_, hk, hp⟩, hy⟩

theorem scratch11 : View.canon (pb_k0_t1 (F := Ideal) Variants.none c none i arg1 harg1 arg2 harg2 arg3 harg3 arg4 harg4 arg5 harg5 arg6 harg6 arg7 harg7 arg8 harg8 arg9 harg9 arg10 harg10 arg11 harg11 arg12 harg12 width X2 k0_t1_loop.trips) = lanes arg2 X2 := by
  funext y
  refine View.canon_eq_of_allAt _ y _ (cover11 c i arg1 harg1 arg2 harg2 arg3 harg3 arg4 harg4 arg5 harg5 arg6 harg6 arg7 harg7 arg8 harg8 arg9 harg9 arg10 harg10 arg11 harg11 arg12 harg12 X2 y) ?_
  intro p hp
  obtain ⟨k, -, hk⟩ := (mem_pb1 c i arg1 harg1 arg2 harg2 arg3 harg3 arg4 harg4 arg5 harg5 arg6 harg6 arg7 harg7 arg8 harg8 arg9 harg9 arg10 harg10 arg11 harg11 arg12 harg12 X2 width _ le_rfl _).mp hp
  rw [trip1_list, loads1_eq] at hk
  rcases List.mem_cons.mp hk with rfl | hk
  · intro x hx
    refine m2_piece arg2 X2 k x y fun a => ?_
    rw [← hx]; exact congrArg (fun o : Fin 3 → Nat => o a + 1 * (x a).val) (k0_off58_eq k)
  · obtain rfl := List.mem_singleton.mp hk
    intro x hx
    refine sum_piece arg2 X2 k x y fun a => ?_
    rw [← hx]; exact congrArg (fun o : Fin 3 → Nat => o a + 1 * (x a).val) (k0_off57_eq k)

end Cert.KernelIdeal.Hand
end
end
-- ==== Proof.KernelIdealQuant.lean ====
/-
  The second loop at the ideal values: the codes and the scales it stores, given the columns of means and of reciprocal
  deviations it reads.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp
public import Idealize.ShloMosaic.Lib.Pointwise
public import Idealize.ShloMosaic.Lib.Pipeline.ValueKit
public import proofs.«01_k».proof.Proof.Norm
public import proofs.«01_k».proof.Proof.KernelIdealLanes
public import proofs.«01_k».proof.Proof.KernelIdealScales

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Cert.Norm
open Idealize.SL.BI.BIBase Idealize.SL.BI.Laws Idealize.SL.ProofMode Idealize.SL.Sem
open Idealize.ShloMosaic.Pipeline (Dat RDat Cfg Window BodyObligation cellOf)

variable (c : Dev nD) (i : grid0.Coords)
  (arg1 : Memref sig .tc .smem S1 .f32) (harg1 : arg1.IsWhole)
  (arg2 : Memref sig .tc .vmem S256x7168 .bf16) (harg2 : arg2.IsWhole)
  (arg3 : Memref sig .tc .vmem S1x4x4096 .f32) (harg3 : arg3.IsWhole)
  (arg4 : Memref sig .tc .vmem S1x4x4096 .f32) (harg4 : arg4.IsWhole)
  (arg5 : Memref sig .tc .vmem S1x7168 .f32) (harg5 : arg5.IsWhole)
  (arg6 : Memref sig .tc .vmem S1x7168 .f32) (harg6 : arg6.IsWhole)
  (arg7 : Memref sig .tc .vmem S256x7168 .fp8e4m3) (harg7 : arg7.IsWhole)
  (arg8 : Memref sig .tc .vmem S256x56 .f32) (harg8 : arg8.IsWhole)
  (arg9 : Memref sig .tc .vmem S4x4096 .f32) (harg9 : arg9.IsWhole)
  (arg10 : Memref sig .tc .vmem S4x4096 .f32) (harg10 : arg10.IsWhole)
  (arg11 : Memref sig .tc .vmem S2x256x128 .f32) (harg11 : arg11.IsWhole)
  (arg12 : Memref sig .tc .vmem S2x256x128 .f32) (harg12 : arg12.IsWhole)
  (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)
  (g9 : BufTy.Contents (Elt Ideal) arg9.view.ty) (g10 : BufTy.Contents (Elt Ideal) arg10.view.ty) (g11 : BufTy.Contents (Elt Ideal) arg11.view.ty) (g12 X12 : BufTy.Contents (Elt Ideal) arg12.view.ty)
theorem trips2 : k0_t2_loop.trips = 8 := by decide +kernel

theorem row_lt2 (k : Fin k0_t2_loop.trips) (r : Fin 32) : 32 * k.val + r.val < 256 := by
  have hk : k.val < 8 := Nat.lt_of_lt_of_le k.isLt k0_t2_abs.2.1
  omega

/-- Block `j` of row `r`, normalised by the row's mean `mu r` and reciprocal deviation `rs r`. -/
def normRow (mu rs : Fin 256 → EReal) (r : Fin 256) (j : Fin 56) (l : Fin 128) : EReal :=
  norm (mu r) (rs r) (arg5.view.read (Elt Ideal) X5 (ix2 0 ⟨j.val * 128 + l.val, by omega⟩)) (arg6.view.read (Elt Ideal) X6 (ix2 0 ⟨j.val * 128 + l.val, by omega⟩))
    (rowX arg2 X2 r ⟨j.val * 128 + l.val, by omega⟩)

theorem yBlk_apply (mu rs : Vec Ideal S1x32x128 .f32) (x : Vec Ideal S32x128 .bf16) (g b : Vec Ideal S1x128 .f32) (r : Fin 32) (l : Fin 128) :
    yBlk (F := Ideal) mu rs x g b (ix2 r l) = norm (mu (ix3 0 r l)) (rs (ix3 0 r l)) (g (ix2 0 l)) (b (ix2 0 l)) (x (ix2 r l)) := by
  pointwise [yBlk]
  rfl

theorem col_apply (k : Fin k0_t2_loop.trips) (z : Fin 2) (off : Fin 3 → Nat) (hoff : off = ![z.val, 32 * k.val, 0])
    (h : ∀ a, off a + S1x32x128.size a ≤ S2x256x128.size a) (r : Fin 32) (l : Fin 128) :
    View.readAt (Elt Ideal) arg12.view (Rect.unit (s := S2x256x128) off S1x32x128.size h).toLoadRect X12 (ix3 0 r l)
      = arg12.view.read (Elt Ideal) X12 (ix3 z ⟨32 * k.val + r.val, row_lt2 k r⟩ l) := by
  subst hoff
  rw [View.readAt_eq_ld]
  refine View.ld_unit_apply_of _ _ _ _ _ _ fun a => ?_
  match a with
  | ⟨0, _⟩ => rfl
  | ⟨1, _⟩ => rfl
  | ⟨2, _⟩ => show l.val = 0 + l.val; omega

theorem x2_apply (k : Fin k0_t2_loop.trips) (j : Fin 56) (r : Fin 32) (l : Fin 128) :
    View.readAt (Elt Ideal) arg2.view (Rect.unit (s := S256x7168) ![32 * k.val, 128 * j.val] S32x128.size (inb_x k j)).toLoadRect X2 (ix2 r l)
      = rowX arg2 X2 ⟨32 * k.val + r.val, row_lt2 k r⟩ ⟨j.val * 128 + l.val, by omega⟩ := by
  unfold rowX
  rw [View.readAt_eq_ld]
  refine View.ld_unit_apply_of _ _ _ _ _ _ fun a => ?_
  match a with
  | ⟨0, _⟩ => rfl
  | ⟨1, _⟩ => show j.val * 128 + l.val = 128 * j.val + l.val; omega

theorem par5_apply (j : Fin 56) (l : Fin 128) :
    View.readAt (Elt Ideal) arg5.view (Rect.unit (s := S1x7168) ![0, 128 * j.val] S1x128.size (inb_g j)).toLoadRect X5 (ix2 0 l)
      = arg5.view.read (Elt Ideal) X5 (ix2 0 ⟨j.val * 128 + l.val, by omega⟩) := by
  rw [View.readAt_eq_ld]
  refine View.ld_unit_apply_of _ _ _ _ _ _ fun a => ?_
  match a with
  | ⟨0, _⟩ => rfl
  | ⟨1, _⟩ => show j.val * 128 + l.val = 128 * j.val + l.val; omega

theorem par6_apply (j : Fin 56) (l : Fin 128) :
    View.readAt (Elt Ideal) arg6.view (Rect.unit (s := S1x7168) ![0, 128 * j.val] S1x128.size (inb_g j)).toLoadRect X6 (ix2 0 l)
      = arg6.view.read (Elt Ideal) X6 (ix2 0 ⟨j.val * 128 + l.val, by omega⟩) := by
  rw [View.readAt_eq_ld]
  refine View.ld_unit_apply_of _ _ _ _ _ _ fun a => ?_
  match a with
  | ⟨0, _⟩ => rfl
  | ⟨1, _⟩ => show j.val * 128 + l.val = 128 * j.val + l.val; omega

theorem tBlk_apply (y : FVec Ideal S32x128 .f32) (r : Fin 32) : tBlk (F := Ideal) y (ix2 r 0) = blockT (fun l => y (ix2 r l)) := by
  pointwise [tBlk]
  rfl

theorem fieldBlk_apply (t : FVec Ideal S32x1 .f32) (r : Fin 32) : fieldBlk (F := Ideal) t (ix2 r 0) = Cert.Scale.field (t (ix2 r 0)) := by
  pointwise [fieldBlk]
  rfl

theorem scaleBits_apply (f : IVec S32x1 32) (r : Fin 32) : scaleBits f (ix2 r 0) = Cert.Scale.bits (f (ix2 r 0)) := by
  pointwise [scaleBits]
  rfl

/-- The codes of a block of 32 rows. -/
theorem codesBlk_apply (y : FVec Ideal S32x128 .f32) (r : Fin 32) (l : Fin 128) :
    codesBlk (F := Ideal) y (ix2 r l) = code (fun l => y (ix2 r l)) l := by
  have e : codesBlk (F := Ideal) y (ix2 r l) = min (Ideal.ofBits .f32 1138753536#32) (max (Ideal.ofBits .f32 3286237184#32)
      (y (ix2 r l) * Ideal.ofBits .f32 (IntOp.subi 2130706432#32 (scaleBits (fieldBlk (tBlk y)) (ix2 r 0))))) := by
    pointwise [codesBlk]
  rw [e, scaleBits_apply, fieldBlk_apply, tBlk_apply, (Cert.Scale.scale_eq _).2]
  rfl

/-- The scales of a block of 32 rows. -/
theorem scaleOf_apply (y : FVec Ideal S32x128 .f32) (r : Fin 32) :
    bitcastToFloat (F := Ideal) .f32 (scaleBits (fieldBlk (tBlk y))) (ix2 r 0) = scale (fun l => y (ix2 r l)) := by
  have e : bitcastToFloat (F := Ideal) .f32 (scaleBits (fieldBlk (tBlk y))) (ix2 r 0)
      = Ideal.ofBits .f32 (scaleBits (fieldBlk (tBlk y)) (ix2 r 0)) := rfl
  rw [e, scaleBits_apply, fieldBlk_apply, tBlk_apply, (Cert.Scale.scale_eq _).1]
  rfl

theorem mem_pb2_codes (n : ℕ) (hn : n ≤ k0_t2_loop.trips) (p : View.Piece (Elt Ideal) S256x7168 .fp8e4m3) :
    p ∈ (pb_k0_t2 (F := Ideal) Variants.none c none i arg1 harg1 arg2 harg2 arg3 harg3 arg4 harg4 arg5 harg5 arg6 harg6 arg7 harg7 arg8 harg8 arg9 harg9 arg10 harg10 arg11 harg11 arg12 harg12 X2 X5 X6 X12 n).1
      ↔ ∃ k : Fin k0_t2_loop.trips, k.val < n ∧ p ∈ (trip_k0_t2 (F := Ideal) Variants.none c none i arg1 harg1 arg2 harg2 arg3 harg3 arg4 harg4 arg5 harg5 arg6 harg6 arg7 harg7 arg8 harg8 arg9 harg9 arg10 harg10 arg11 harg11 arg12 harg12 X2 X5 X6 X12 k).1 := by
  induction n with
  | zero => simp [pb_k0_t2]
  | succ n ih =>
    have e := congrArg Prod.fst (pb_k0_t2_succ (F := Ideal) Variants.none c none i arg1 harg1 arg2 harg2 arg3 harg3 arg4 harg4 arg5 harg5 arg6 harg6 arg7 harg7 arg8 harg8 arg9 harg9 arg10 harg10 arg11 harg11 arg12 harg12 X2 X5 X6 X12 ⟨n, hn⟩)
    rw [e, List.mem_append, ih (by omega)]
    constructor
    · rintro (h | ⟨k, hk, h⟩)
      · exact ⟨⟨n, hn⟩, Nat.lt_succ_self n, h⟩
      · exact ⟨k, by omega, h⟩
    · rintro ⟨k, hk, h⟩
      rcases Nat.lt_succ_iff_lt_or_eq.mp hk with hk | hk
      · exact .inr ⟨k, hk, h⟩
      · left
        obtain rfl : k = ⟨n, hn⟩ := Fin.ext hk
        exact h

theorem mem_pb2_scales (n : ℕ) (hn : n ≤ k0_t2_loop.trips) (p : View.Piece (Elt Ideal) S256x56 .f32) :
    p ∈ (pb_k0_t2 (F := Ideal) Variants.none c none i arg1 harg1 arg2 harg2 arg3 harg3 arg4 harg4 arg5 harg5 arg6 harg6 arg7 harg7 arg8 harg8 arg9 harg9 arg10 harg10 arg11 harg11 arg12 harg12 X2 X5 X6 X12 n).2
      ↔ ∃ k : Fin k0_t2_loop.trips, k.val < n ∧ p ∈ (trip_k0_t2 (F := Ideal) Variants.none c none i arg1 harg1 arg2 harg2 arg3 harg3 arg4 harg4 arg5 harg5 arg6 harg6 arg7 harg7 arg8 harg8 arg9 harg9 arg10 harg10 arg11 harg11 arg12 harg12 X2 X5 X6 X12 k).2.1 := by
  induction n with
  | zero => simp [pb_k0_t2]
  | succ n ih =>
    have e := congrArg Prod.snd (pb_k0_t2_succ (F := Ideal) Variants.none c none i arg1 harg1 arg2 harg2 arg3 harg3 arg4 harg4 arg5 harg5 arg6 harg6 arg7 harg7 arg8 harg8 arg9 harg9 arg10 harg10 arg11 harg11 arg12 harg12 X2 X5 X6 X12 ⟨n, hn⟩)
    rw [e, List.mem_append, ih (by omega)]
    constructor
    · rintro (h | ⟨k, hk, h⟩)
      · exact ⟨⟨n, hn⟩, Nat.lt_succ_self n, h⟩
      · exact ⟨k, by omega, h⟩
    · rintro ⟨k, hk, h⟩
      rcases Nat.lt_succ_iff_lt_or_eq.mp hk with hk | hk
      · exact .inr ⟨k, hk, h⟩
      · left
        obtain rfl : k = ⟨n, hn⟩ := Fin.ext hk
        exact h

theorem eta2k {a b : Nat} (x : (⟨2, ![a, b]⟩ : Shape).Idx) : x = ix2 (x 0) (x 1) := by
  funext q
  match q with
  | ⟨0, _⟩ => rfl
  | ⟨1, _⟩ => rfl

theorem scaleRows_apply (s : Fin 56 → FVec Ideal S32x1 .f32) (r : Fin 32) (j : Fin 56) : scaleRows (F := Ideal) s (ix2 r j) = s j (ix2 r 0) := by
  unfold scaleRows
  exact concatenate_ofFn_unit_apply (t := S32x56) (s₁ := S32x1) 1 s (concatenates56 s) rfl rfl (ix2 r j) j rfl (ix2 r 0) (by
    intro a ha
    match a with
    | ⟨0, _⟩ => rfl
    | ⟨1, _⟩ => exact absurd rfl ha)

section
variable (mu rs : Fin 256 → EReal) (h12 : ∀ (z : Fin 2) (r : Fin 256) (l : Fin 128), arg12.view.read (Elt Ideal) X12 (ix3 z r l) = if z.val = 0 then mu r else rs r)
include h12

/-- Block `j` of `y` on trip `k`, entry by entry. -/
theorem yAt_apply (k : Fin k0_t2_loop.trips) (j : Fin 56) (r : Fin 32) (l : Fin 128) :
    yAt (F := Ideal) arg2 arg5 arg6 arg12 X2 X5 X6 X12 k j (ix2 r l) = normRow arg2 arg5 arg6 X2 X5 X6 mu rs ⟨32 * k.val + r.val, row_lt2 k r⟩ j l := by
  unfold yAt normRow
  rw [yBlk_apply, col_apply arg12 X12 k 0 _ (k0_off61_eq k), col_apply arg12 X12 k 1 _ (k0_off62_eq k), x2_apply, par5_apply, par6_apply, h12, h12, if_pos (show ((0 : Fin 2).val) = 0 from rfl), if_neg (show ¬ ((1 : Fin 2).val) = 0 by decide)]

theorem codes_piece (k : Fin k0_t2_loop.trips) (j : Fin 56) (x : S32x128.Idx) (y : S256x7168.Idx)
    (e : ∀ a, (y a).val = (![32 * k.val, 128 * j.val] : Fin 2 → Nat) a + 1 * (x a).val) :
    codesBlk (yAt (F := Ideal) arg2 arg5 arg6 arg12 X2 X5 X6 X12 k j) x
      = code (normRow arg2 arg5 arg6 X2 X5 X6 mu rs (y 0) ⟨(y 1).val / 128, by have : (y 1).val < 7168 := (y 1).isLt; omega⟩) ⟨(y 1).val % 128, by omega⟩ := by
  obtain ⟨r, l, rfl⟩ : ∃ (r : Fin 32) (l : Fin 128), x = ix2 r l := ⟨x 0, x 1, eta2k x⟩
  have e1 : (⟨32 * k.val + r.val, row_lt2 k r⟩ : Fin 256) = y 0 :=
    Fin.ext (by have : (y 0).val = 32 * k.val + 1 * r.val := e 0; show 32 * k.val + r.val = (y 0).val; omega)
  have e2 : (y 1).val = 128 * j.val + 1 * l.val := e 1
  have e3 : (⟨(y 1).val / 128, by have : (y 1).val < 7168 := (y 1).isLt; omega⟩ : Fin 56) = j := Fin.ext (by show (y 1).val / 128 = j.val; omega)
  have e4 : (⟨(y 1).val % 128, by omega⟩ : Fin 128) = l := Fin.ext (by show (y 1).val % 128 = l.val; omega)
  rw [codesBlk_apply, e3, e4, ← e1]
  simp only [yAt_apply arg2 arg5 arg6 arg12 X2 X5 X6 X12 mu rs h12]

theorem scales_piece (k : Fin k0_t2_loop.trips) (x : S32x56.Idx) (y : S256x56.Idx)
    (e : ∀ a, (y a).val = (![32 * k.val, 0] : Fin 2 → Nat) a + 1 * (x a).val) :
    scaleRows (scaleCol (F := Ideal) arg2 arg5 arg6 arg12 X2 X5 X6 X12 k) x = scale (normRow arg2 arg5 arg6 X2 X5 X6 mu rs (y 0) (y 1)) := by
  obtain ⟨r, l, rfl⟩ : ∃ (r : Fin 32) (l : Fin 56), x = ix2 r l := ⟨x 0, x 1, eta2k x⟩
  have e1 : (⟨32 * k.val + r.val, row_lt2 k r⟩ : Fin 256) = y 0 :=
    Fin.ext (by have : (y 0).val = 32 * k.val + 1 * r.val := e 0; show 32 * k.val + r.val = (y 0).val; omega)
  have e2 : l = y 1 := Fin.ext (by have : (y 1).val = 0 + 1 * l.val := e 1; omega)
  rw [scaleRows_apply, ← e1, ← e2]
  unfold scaleCol
  rw [scaleOf_apply]
  simp only [yAt_apply arg2 arg5 arg6 arg12 X2 X5 X6 X12 mu rs h12]

omit h12 in
theorem cover_codes (y : S256x7168.Idx) : ∃ p ∈ (pb_k0_t2 (F := Ideal) Variants.none c none i arg1 harg1 arg2 harg2 arg3 harg3 arg4 harg4 arg5 harg5 arg6 harg6 arg7 harg7 arg8 harg8 arg9 harg9 arg10 harg10 arg11 harg11 arg12 harg12 X2 X5 X6 X12 k0_t2_loop.trips).1, y ∈ p.1.set := by
  have h0 : (y 0).val < 256 := (y 0).isLt
  have h1 : (y 1).val < 7168 := (y 1).isLt
  have hk : (y 0).val / 32 < k0_t2_loop.trips := by rw [trips2]; omega
  have hm : ∃ p ∈ (trip_k0_t2 (F := Ideal) Variants.none c none i arg1 harg1 arg2 harg2 arg3 harg3 arg4 harg4 arg5 harg5 arg6 harg6 arg7 harg7 arg8 harg8 arg9 harg9 arg10 harg10 arg11 harg11 arg12 harg12 X2 X5 X6 X12 ⟨_, hk⟩).1, y ∈ p.1.set := by
    rw [trip2_codes]
    refine ⟨_, List.mem_map_of_mem (List.mem_reverse.mpr (List.mem_finRange (⟨(y 1).val / 128, by omega⟩ : Fin 56))), ?_⟩
    show y ∈ (Rect.unit (s := S256x7168) ![32 * ((y 0).val / 32), 128 * ((y 1).val / 128)] S32x128.size (inb_x ⟨_, hk⟩ ⟨(y 1).val / 128, by omega⟩)).set
    rw [Rect.mem_set_unit]
    intro a
    match a with
    | ⟨0, _⟩ => show 32 * ((y 0).val / 32) ≤ (y 0).val ∧ (y 0).val < 32 * ((y 0).val / 32) + 32; omega
    | ⟨1, _⟩ => show 128 * ((y 1).val / 128) ≤ (y 1).val ∧ (y 1).val < 128 * ((y 1).val / 128) + 128; omega
  obtain ⟨p, hp, hy⟩ := hm
  exact ⟨p, (mem_pb2_codes c i arg1 harg1 arg2 harg2 arg3 harg3 arg4 harg4 arg5 harg5 arg6 harg6 arg7 harg7 arg8 harg8 arg9 harg9 arg10 harg10 arg11 harg11 arg12 harg12 X2 X5 X6 X12 _ le_rfl _).mpr ⟨_, hk, hp⟩, hy⟩

/-- The codes the second loop stores. -/
theorem codes_canon : View.canon (pb_k0_t2 (F := Ideal) Variants.none c none i arg1 harg1 arg2 harg2 arg3 harg3 arg4 harg4 arg5 harg5 arg6 harg6 arg7 harg7 arg8 harg8 arg9 harg9 arg10 harg10 arg11 harg11 arg12 harg12 X2 X5 X6 X12 k0_t2_loop.trips).1
    = fun y => code (normRow arg2 arg5 arg6 X2 X5 X6 mu rs (y 0) ⟨(y 1).val / 128, by have : (y 1).val < 7168 := (y 1).isLt; omega⟩) ⟨(y 1).val % 128, by omega⟩ := by
  funext y
  refine View.canon_eq_of_allAt _ y _ (cover_codes c i arg1 harg1 arg2 harg2 arg3 harg3 arg4 harg4 arg5 harg5 arg6 harg6 arg7 harg7 arg8 harg8 arg9 harg9 arg10 harg10 arg11 harg11 arg12 harg12 X2 X5 X6 X12 y) ?_
  intro p hp
  obtain ⟨k, -, hk⟩ := (mem_pb2_codes c i arg1 harg1 arg2 harg2 arg3 harg3 arg4 harg4 arg5 harg5 arg6 harg6 arg7 harg7 arg8 harg8 arg9 harg9 arg10 harg10 arg11 harg11 arg12 harg12 X2 X5 X6 X12 _ le_rfl _).mp hp
  rw [trip2_codes] at hk
  obtain ⟨j, -, rfl⟩ := List.mem_map.mp hk
  intro x hx
  refine codes_piece arg2 arg5 arg6 arg12 X2 X5 X6 X12 mu rs h12 k j x y fun a => ?_
  rw [← hx]; rfl

omit h12 in
theorem cover_scales (y : S256x56.Idx) : ∃ p ∈ (pb_k0_t2 (F := Ideal) Variants.none c none i arg1 harg1 arg2 harg2 arg3 harg3 arg4 harg4 arg5 harg5 arg6 harg6 arg7 harg7 arg8 harg8 arg9 harg9 arg10 harg10 arg11 harg11 arg12 harg12 X2 X5 X6 X12 k0_t2_loop.trips).2, y ∈ p.1.set := by
  have h0 : (y 0).val < 256 := (y 0).isLt
  have h1 : (y 1).val < 56 := (y 1).isLt
  have hk : (y 0).val / 32 < k0_t2_loop.trips := by rw [trips2]; omega
  have hm : ∃ p ∈ (trip_k0_t2 (F := Ideal) Variants.none c none i arg1 harg1 arg2 harg2 arg3 harg3 arg4 harg4 arg5 harg5 arg6 harg6 arg7 harg7 arg8 harg8 arg9 harg9 arg10 harg10 arg11 harg11 arg12 harg12 X2 X5 X6 X12 ⟨_, hk⟩).2.1, y ∈ p.1.set := by
    rw [trip2_scales]
    refine ⟨_, List.mem_singleton_self _, ?_⟩
    show y ∈ (Rect.unit (s := S256x56) (k0_off119 ⟨_, hk⟩) S32x56.size (k0_off119_inb _)).set
    rw [Rect.mem_set_unit, k0_off119_eq]
    intro a
    match a with
    | ⟨0, _⟩ => show 32 * ((y 0).val / 32) ≤ (y 0).val ∧ (y 0).val < 32 * ((y 0).val / 32) + 32; omega
    | ⟨1, _⟩ => show 0 ≤ (y 1).val ∧ (y 1).val < 0 + 56; omega
  obtain ⟨p, hp, hy⟩ := hm
  exact ⟨p, (mem_pb2_scales c i arg1 harg1 arg2 harg2 arg3 harg3 arg4 harg4 arg5 harg5 arg6 harg6 arg7 harg7 arg8 harg8 arg9 harg9 arg10 harg10 arg11 harg11 arg12 harg12 X2 X5 X6 X12 _ le_rfl _).mpr ⟨_, hk, hp⟩, hy⟩

/-- The scales the second loop stores. -/
theorem scales_canon : View.canon (pb_k0_t2 (F := Ideal) Variants.none c none i arg1 harg1 arg2 harg2 arg3 harg3 arg4 harg4 arg5 harg5 arg6 harg6 arg7 harg7 arg8 harg8 arg9 harg9 arg10 harg10 arg11 harg11 arg12 harg12 X2 X5 X6 X12 k0_t2_loop.trips).2
    = fun y => scale (normRow arg2 arg5 arg6 X2 X5 X6 mu rs (y 0) (y 1)) := by
  funext y
  refine View.canon_eq_of_allAt _ y _ (cover_scales c i arg1 harg1 arg2 harg2 arg3 harg3 arg4 harg4 arg5 harg5 arg6 harg6 arg7 harg7 arg8 harg8 arg9 harg9 arg10 harg10 arg11 harg11 arg12 harg12 X2 X5 X6 X12 y) ?_
  intro p hp
  obtain ⟨k, -, hk⟩ := (mem_pb2_scales c i arg1 harg1 arg2 harg2 arg3 harg3 arg4 harg4 arg5 harg5 arg6 harg6 arg7 harg7 arg8 harg8 arg9 harg9 arg10 harg10 arg11 harg11 arg12 harg12 X2 X5 X6 X12 _ le_rfl _).mp hp
  rw [trip2_scales] at hk
  obtain rfl := List.mem_singleton.mp hk
  intro x hx
  refine scales_piece arg2 arg5 arg6 arg12 X2 X5 X6 X12 mu rs h12 k x y fun a => ?_
  rw [← hx]; exact congrArg (fun o : Fin 2 → Nat => o a + 1 * (x a).val) (k0_off119_eq k)

end

end Cert.KernelIdeal.Hand
end
end
-- ==== Proof.KernelIdealMerge.lean ====
/-
  The merge at the ideal values: the mean and the reciprocal deviation of each row of the tile, from the lane sums and the
  peer's statistics.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp
public import Idealize.ShloMosaic.Lib.Pointwise
public import Idealize.ShloMosaic.Lib.Pipeline.ValueKit
public import proofs.«01_k».proof.Proof.Norm
public import proofs.«01_k».proof.Proof.KernelIdealLanes
public import proofs.«01_k».proof.Proof.KernelIdealRun
public import proofs.«01_k».proof.Proof.KernelIdealQuant
public import proofs.«01_k».proof.Proof.KernelIdealScales

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Cert.Norm
open Idealize.SL.BI.BIBase Idealize.SL.BI.Laws Idealize.SL.ProofMode Idealize.SL.Sem
open Idealize.ShloMosaic.Pipeline (Dat RDat Cfg Window BodyObligation cellOf)

variable (c : Dev nD) (i : grid0.Coords)
  (arg1 : Memref sig .tc .smem S1 .f32) (harg1 : arg1.IsWhole)
  (arg2 : Memref sig .tc .vmem S256x7168 .bf16) (harg2 : arg2.IsWhole)
  (arg3 : Memref sig .tc .vmem S1x4x4096 .f32) (harg3 : arg3.IsWhole)
  (arg4 : Memref sig .tc .vmem S1x4x4096 .f32) (harg4 : arg4.IsWhole)
  (arg5 : Memref sig .tc .vmem S1x7168 .f32) (harg5 : arg5.IsWhole)
  (arg6 : Memref sig .tc .vmem S1x7168 .f32) (harg6 : arg6.IsWhole)
  (arg7 : Memref sig .tc .vmem S256x7168 .fp8e4m3) (harg7 : arg7.IsWhole)
  (arg8 : Memref sig .tc .vmem S256x56 .f32) (harg8 : arg8.IsWhole)
  (arg9 : Memref sig .tc .vmem S4x4096 .f32) (harg9 : arg9.IsWhole)
  (arg10 : Memref sig .tc .vmem S4x4096 .f32) (harg10 : arg10.IsWhole)
  (arg11 : Memref sig .tc .vmem S2x256x128 .f32) (harg11 : arg11.IsWhole)
  (arg12 : Memref sig .tc .vmem S2x256x128 .f32) (harg12 : arg12.IsWhole)
  (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)
  (g9 : BufTy.Contents (Elt Ideal) arg9.view.ty) (g10 : BufTy.Contents (Elt Ideal) arg10.view.ty) (g11 : BufTy.Contents (Elt Ideal) arg11.view.ty) (g12 X12 : BufTy.Contents (Elt Ideal) arg12.view.ty)
/-- The batch row of a grid point's tile. -/
def batch (i : grid0.Coords) : Fin 4 := ⟨(i 0).val / 16, by have : (i 0).val < 64 := (i 0).isLt; omega⟩

/-- Where row `r` of a grid point's tile lies along the sequence. -/
def seqOf (i : grid0.Coords) (r : Fin 256) : Fin 4096 := ⟨(256 * (i 0).val) % 4096 + r.val, by omega⟩

/-- The mask of a tile's batch row. -/
theorem mask_apply (a : Fin 4) (l : Fin 128) : k0_pay380 i (ix2 a l) = if a = batch i then 1#1 else 0#1 := by
  pointwise [k0_pay380]
  revert i a
  decide +kernel

section
variable (v31 : IVec S4x128 1) (b : Fin 4) (hm : ∀ (a : Fin 4) (l : Fin 128), v31 (ix2 a l) = if a = b then 1#1 else 0#1)
variable (v34 v41 : Vec Ideal S1x128x128 .f32) (f : Fin 128 → Fin 7168 → EReal)
variable (h0 : ∀ l x : Fin 128, v34 (ix3 0 l x) = laneSum (f l) x) (h1 : ∀ l x : Fin 128, v41 (ix3 0 l x) = laneM2 (f l) x)
variable (n : Elt Ideal .f32) (pm p2 : Vec Ideal S1x4x128 .f32)

theorem sum_laneSum (f : Fin 7168 → EReal) : (∑ x, laneSum f x) = ∑ ch, f ch := sum_lanes f
theorem sum_laneM2 (f : Fin 7168 → EReal) : (∑ x, laneM2 f x) = locM2 f := sum_lanes (fun ch => (f ch - locMean f) * (f ch - locMean f))

include hm in
theorem peer_apply (p : Vec Ideal S1x4x128 .f32) (l : Fin 128) : (∑ a, Scalar.select (v31 (ix2 a l)) (p (ix3 0 a l)) (0 : EReal)) = p (ix3 0 b l) :=
  sum_row b (fun a => p (ix3 0 a l)) (fun a => v31 (ix2 a l)) fun a => hm a l

include hm h0 in
theorem mean_first (l : Fin 128) : k0_pay384 (F := Ideal) v31 v34 n pm (ix2 0 l) = mean n (pm (ix3 0 b l)) (f l) := by
  have e : k0_pay384 (F := Ideal) v31 v34 n pm (ix2 0 l) = (∑ a, Scalar.select (v31 (ix2 a l)) (pm (ix3 0 a l)) (0 : EReal))
      + (Ideal.div (∑ x, v34 (ix3 0 l x)) (Ideal.ofBits .f32 1172307968#32) - ∑ a, Scalar.select (v31 (ix2 a l)) (pm (ix3 0 a l)) (0 : EReal))
        * Ideal.div (Ideal.ofBits .f32 1172307968#32) (n + Ideal.ofBits .f32 1172307968#32) := by
    pointwise [k0_pay384, k0_pay383, k0_pay382, k0_pay381]
  rw [e, peer_apply v31 b hm]
  simp only [h0]
  rw [sum_laneSum]
  rfl

include hm h0 in
theorem mean_second (l : Fin 128) : k0_pay395 (F := Ideal) v31 (k0_pay391 v34) n pm (ix2 0 l) = mean n (pm (ix3 0 b l)) (f l) := by
  have e : k0_pay395 (F := Ideal) v31 (k0_pay391 v34) n pm (ix2 0 l) = (∑ a, Scalar.select (v31 (ix2 a l)) (pm (ix3 0 a l)) (0 : EReal))
      + (Ideal.div (∑ x, v34 (ix3 0 l x)) (Ideal.ofBits .f32 1172307968#32) - ∑ a, Scalar.select (v31 (ix2 a l)) (pm (ix3 0 a l)) (0 : EReal))
        * Ideal.div (Ideal.ofBits .f32 1172307968#32) (n + Ideal.ofBits .f32 1172307968#32) := by
    pointwise [k0_pay395, k0_pay394, k0_pay393, k0_pay392, k0_pay391]
  rw [e, peer_apply v31 b hm]
  simp only [h0]
  rw [sum_laneSum]
  rfl

include hm h0 h1 in
theorem rstd_first (l : Fin 128) : k0_pay386 (F := Ideal) (k0_pay385 v31 v34 v41 n pm p2) kernelRun.sl.cst_33 (ix2 0 l)
    = rstd n (pm (ix3 0 b l)) (p2 (ix3 0 b l)) (f l) := by
  have e : k0_pay386 (F := Ideal) (k0_pay385 v31 v34 v41 n pm p2) (Scalar.ofBits .f32 0x3727C5AC#32) (ix2 0 l)
      = Ideal.rsqrt (Ideal.div ((∑ a, Scalar.select (v31 (ix2 a l)) (p2 (ix3 0 a l)) (0 : EReal)) + (∑ x, v41 (ix3 0 l x))
        + (Ideal.div (∑ x, v34 (ix3 0 l x)) (Ideal.ofBits .f32 1172307968#32) - ∑ a, Scalar.select (v31 (ix2 a l)) (pm (ix3 0 a l)) (0 : EReal))
          * (Ideal.div (∑ x, v34 (ix3 0 l x)) (Ideal.ofBits .f32 1172307968#32) - ∑ a, Scalar.select (v31 (ix2 a l)) (pm (ix3 0 a l)) (0 : EReal))
          * Ideal.div (n * Ideal.ofBits .f32 1172307968#32) (n + Ideal.ofBits .f32 1172307968#32))
        (n + Ideal.ofBits .f32 1172307968#32) + Ideal.ofBits .f32 925353388#32) := by
    pointwise [k0_pay386, k0_pay385, k0_pay383, k0_pay382, k0_pay381]
  refine Eq.trans (b := k0_pay386 (F := Ideal) (k0_pay385 v31 v34 v41 n pm p2) (Scalar.ofBits .f32 0x3727C5AC#32) (ix2 0 l)) rfl ?_
  rw [e, peer_apply v31 b hm, peer_apply v31 b hm]
  simp only [h0, h1]
  rw [sum_laneSum, sum_laneM2]
  rfl

include hm h0 h1 in
theorem rstd_second (l : Fin 128) : k0_pay396 (F := Ideal) v31 (k0_pay391 v34) v41 n pm p2 (ix2 0 l)
    = rstd n (pm (ix3 0 b l)) (p2 (ix3 0 b l)) (f l) := by
  have e : k0_pay396 (F := Ideal) v31 (k0_pay391 v34) v41 n pm p2 (ix2 0 l)
      = Ideal.rsqrt (Ideal.div ((∑ a, Scalar.select (v31 (ix2 a l)) (p2 (ix3 0 a l)) (0 : EReal)) + (∑ x, v41 (ix3 0 l x))
        + (Ideal.div (∑ x, v34 (ix3 0 l x)) (Ideal.ofBits .f32 1172307968#32) - ∑ a, Scalar.select (v31 (ix2 a l)) (pm (ix3 0 a l)) (0 : EReal))
          * (Ideal.div (∑ x, v34 (ix3 0 l x)) (Ideal.ofBits .f32 1172307968#32) - ∑ a, Scalar.select (v31 (ix2 a l)) (pm (ix3 0 a l)) (0 : EReal))
          * Ideal.div (n * Ideal.ofBits .f32 1172307968#32) (n + Ideal.ofBits .f32 1172307968#32))
        (n + Ideal.ofBits .f32 1172307968#32) + Ideal.ofBits .f32 925353388#32) := by
    pointwise [k0_pay396, k0_pay394, k0_pay393, k0_pay392, k0_pay391]
  rw [e, peer_apply v31 b hm, peer_apply v31 b hm]
  simp only [h0, h1]
  rw [sum_laneSum, sum_laneM2]
  rfl

end

/-- The mean and the reciprocal deviation of row `r` of the tile. -/
def muRow (r : Fin 256) : EReal :=
  mean (arg1.view.read (Elt Ideal) X1 (ix1 0)) (arg3.view.read (Elt Ideal) X3 (ix3 0 (batch i) (seqOf i r))) (rowX arg2 X2 r)
def rsRow (r : Fin 256) : EReal :=
  rstd (arg1.view.read (Elt Ideal) X1 (ix1 0)) (arg3.view.read (Elt Ideal) X3 (ix3 0 (batch i) (seqOf i r)))
    (arg4.view.read (Elt Ideal) X4 (ix3 0 (batch i) (seqOf i r))) (rowX arg2 X2 r)

/-- Row `l` of the half of the tile that starts at row `128 h`. -/
def rowOf (h : Fin 2) (l : Fin 128) : Fin 256 := ⟨128 * h.val + l.val, by omega⟩

/-! ## The loads -/

theorem count_eq : kernelRun.sl.r (F := Ideal) arg1 X1 = arg1.view.read (Elt Ideal) X1 (ix1 0) := by
  unfold kernelRun.sl.r
  rw [View.readAt_eq_ld]
  refine View.ld_unit_apply_of _ _ _ _ _ _ fun a => ?_
  match a with
  | ⟨0, _⟩ => rfl

theorem ld11 (h z : Fin 2) (off : Fin 3 → Nat) (hoff : off = ![z.val, 128 * h.val, 0])
    (inb : ∀ a, off a + S1x128x128.size a ≤ S2x256x128.size a) (l x : Fin 128) :
    View.readAt (Elt Ideal) arg11.view (Rect.unit (s := S2x256x128) off S1x128x128.size inb).toLoadRect
      (arg11.view.writes (Elt Ideal) g11 (pb_k0_t1 (F := Ideal) Variants.none c none i arg1 harg1 arg2 harg2 arg3 harg3 arg4 harg4 arg5 harg5 arg6 harg6 arg7 harg7 arg8 harg8 arg9 harg9 arg10 harg10 arg11 harg11 arg12 harg12 width X2 k0_t1_loop.trips)) (ix3 0 l x)
      = lanes arg2 X2 (ix3 z (rowOf h l) x) := by
  subst hoff
  rw [View.readAt_eq_ld]
  refine (View.ld_unit_apply_of _ _ _ _ _ (ix3 z (rowOf h l) x) fun a => ?_).trans ?_
  · match a with
    | ⟨0, _⟩ => rfl
    | ⟨1, _⟩ => rfl
    | ⟨2, _⟩ => show x.val = 0 + x.val; omega
  · rw [View.read_writes_apply_eq_canon _ _ _ _ (cover11 c i arg1 harg1 arg2 harg2 arg3 harg3 arg4 harg4 arg5 harg5 arg6 harg6 arg7 harg7 arg8 harg8 arg9 harg9 arg10 harg10 arg11 harg11 arg12 harg12 X2 _), scratch11]

theorem v34_apply (l x : Fin 128) : kernelRun.sl.v34 (F := Ideal) c i arg1 harg1 arg2 harg2 arg3 harg3 arg4 harg4 arg5 harg5 arg6 harg6 arg7 harg7 arg8 harg8 arg9 harg9 arg10 harg10 arg11 harg11 arg12 harg12 X2 g11 (ix3 0 l x) = laneSum (rowX arg2 X2 (rowOf 0 l)) x := by
  unfold kernelRun.sl.v34
  exact (ld11 c i arg1 harg1 arg2 harg2 arg3 harg3 arg4 harg4 arg5 harg5 arg6 harg6 arg7 harg7 arg8 harg8 arg9 harg9 arg10 harg10 arg11 harg11 arg12 harg12 X2 g11 0 0 _ rfl _ l x).trans (if_pos rfl)

theorem v41_apply (l x : Fin 128) : kernelRun.sl.v41 (F := Ideal) c i arg1 harg1 arg2 harg2 arg3 harg3 arg4 harg4 arg5 harg5 arg6 harg6 arg7 harg7 arg8 harg8 arg9 harg9 arg10 harg10 arg11 harg11 arg12 harg12 X2 g11 (ix3 0 l x) = laneM2 (rowX arg2 X2 (rowOf 0 l)) x := by
  unfold kernelRun.sl.v41
  exact (ld11 c i arg1 harg1 arg2 harg2 arg3 harg3 arg4 harg4 arg5 harg5 arg6 harg6 arg7 harg7 arg8 harg8 arg9 harg9 arg10 harg10 arg11 harg11 arg12 harg12 X2 g11 0 1 _ rfl _ l x).trans (if_neg (show ¬ ((1 : Fin 2).val = 0) by decide))

theorem v109_apply (l x : Fin 128) : kernelRun.sl.v109 (F := Ideal) c i arg1 harg1 arg2 harg2 arg3 harg3 arg4 harg4 arg5 harg5 arg6 harg6 arg7 harg7 arg8 harg8 arg9 harg9 arg10 harg10 arg11 harg11 arg12 harg12 X2 g11 (ix3 0 l x) = laneSum (rowX arg2 X2 (rowOf 1 l)) x := by
  unfold kernelRun.sl.v109
  exact (ld11 c i arg1 harg1 arg2 harg2 arg3 harg3 arg4 harg4 arg5 harg5 arg6 harg6 arg7 harg7 arg8 harg8 arg9 harg9 arg10 harg10 arg11 harg11 arg12 harg12 X2 g11 1 0 _ rfl _ l x).trans (if_pos rfl)

theorem v116_apply (l x : Fin 128) : kernelRun.sl.v116 (F := Ideal) c i arg1 harg1 arg2 harg2 arg3 harg3 arg4 harg4 arg5 harg5 arg6 harg6 arg7 harg7 arg8 harg8 arg9 harg9 arg10 harg10 arg11 harg11 arg12 harg12 X2 g11 (ix3 0 l x) = laneM2 (rowX arg2 X2 (rowOf 1 l)) x := by
  unfold kernelRun.sl.v116
  exact (ld11 c i arg1 harg1 arg2 harg2 arg3 harg3 arg4 harg4 arg5 harg5 arg6 harg6 arg7 harg7 arg8 harg8 arg9 harg9 arg10 harg10 arg11 harg11 arg12 harg12 X2 g11 1 1 _ rfl _ l x).trans (if_neg (show ¬ ((1 : Fin 2).val = 0) by decide))

theorem ldPeer (arg : Memref sig .tc .vmem S1x4x4096 .f32) (X : BufTy.Contents (Elt Ideal) arg.view.ty) (h : Fin 2) (off : Fin 3 → Nat)
    (hoff : off = ![0, 0, (256 * (i 0).val) % 4096 + 128 * h.val]) (inb : ∀ a, off a + S1x4x128.size a ≤ S1x4x4096.size a) (b : Fin 4) (l : Fin 128) :
    View.readAt (Elt Ideal) arg.view (Rect.unit (s := S1x4x4096) off S1x4x128.size inb).toLoadRect X (ix3 0 b l)
      = arg.view.read (Elt Ideal) X (ix3 0 b (seqOf i (rowOf h l))) := by
  subst hoff
  rw [View.readAt_eq_ld]
  refine View.ld_unit_apply_of _ _ _ _ _ _ fun a => ?_
  match a with
  | ⟨0, _⟩ => rfl
  | ⟨1, _⟩ => show b.val = 0 + b.val; omega
  | ⟨2, _⟩ => show (256 * (i 0).val) % 4096 + (128 * h.val + l.val) = (256 * (i 0).val) % 4096 + 128 * h.val + l.val; omega

/-! ## The statistics of the tile's rows -/

theorem r1_apply (l : Fin 128) : kernelRun.sl.r_1 (F := Ideal) c i arg1 harg1 arg2 harg2 arg3 harg3 arg4 harg4 arg5 harg5 arg6 harg6 arg7 harg7 arg8 harg8 arg9 harg9 arg10 harg10 arg11 harg11 arg12 harg12 X1 X2 X3 g11 (ix2 0 l) = muRow i arg1 arg2 arg3 X1 X2 X3 (rowOf 0 l) := by
  unfold kernelRun.sl.r_1
  rw [mean_first _ (batch i) (mask_apply i) _ (fun l => rowX arg2 X2 (rowOf 0 l)) (v34_apply c i arg1 harg1 arg2 harg2 arg3 harg3 arg4 harg4 arg5 harg5 arg6 harg6 arg7 harg7 arg8 harg8 arg9 harg9 arg10 harg10 arg11 harg11 arg12 harg12 X2 g11), count_eq, ldPeer i arg3 X3 0 _ (off59_eq i).1]
  rfl

theorem r4_apply (l : Fin 128) : kernelRun.sl.r_4 (F := Ideal) c i arg1 harg1 arg2 harg2 arg3 harg3 arg4 harg4 arg5 harg5 arg6 harg6 arg7 harg7 arg8 harg8 arg9 harg9 arg10 harg10 arg11 harg11 arg12 harg12 X1 X2 X3 g11 (ix2 0 l) = muRow i arg1 arg2 arg3 X1 X2 X3 (rowOf 1 l) := by
  unfold kernelRun.sl.r_4 kernelRun.sl.r_3
  rw [mean_second _ (batch i) (mask_apply i) _ (fun l => rowX arg2 X2 (rowOf 1 l)) (v109_apply c i arg1 harg1 arg2 harg2 arg3 harg3 arg4 harg4 arg5 harg5 arg6 harg6 arg7 harg7 arg8 harg8 arg9 harg9 arg10 harg10 arg11 harg11 arg12 harg12 X2 g11), count_eq, ldPeer i arg3 X3 1 _ (off59_eq i).2]
  rfl

theorem pay398_apply (v31 : IVec S4x128 1) (v115 : FVec Ideal S1x128 .f32) (n : Elt Ideal .f32) (pm : Vec Ideal S1x4x128 .f32) (l : Fin 128) :
    k0_pay398 (F := Ideal) v31 v115 n pm (ix2 0 l) = k0_pay395 v31 v115 n pm (ix2 0 l) := by
  unfold k0_pay398
  generalize k0_pay395 v31 v115 n pm = v
  pointwise []

theorem r7_apply (l : Fin 128) : kernelRun.sl.r_7 (F := Ideal) c i arg1 harg1 arg2 harg2 arg3 harg3 arg4 harg4 arg5 harg5 arg6 harg6 arg7 harg7 arg8 harg8 arg9 harg9 arg10 harg10 arg11 harg11 arg12 harg12 X1 X2 X3 g11 (ix2 0 l) = muRow i arg1 arg2 arg3 X1 X2 X3 (rowOf 1 l) := by
  unfold kernelRun.sl.r_7 kernelRun.sl.r_3
  rw [pay398_apply, mean_second _ (batch i) (mask_apply i) _ (fun l => rowX arg2 X2 (rowOf 1 l)) (v109_apply c i arg1 harg1 arg2 harg2 arg3 harg3 arg4 harg4 arg5 harg5 arg6 harg6 arg7 harg7 arg8 harg8 arg9 harg9 arg10 harg10 arg11 harg11 arg12 harg12 X2 g11), count_eq, ldPeer i arg3 X3 1 _ (off59_eq i).2]
  rfl

theorem r2_apply (l : Fin 128) : k0_pay386 (kernelRun.sl.r_2 (F := Ideal) c i arg1 harg1 arg2 harg2 arg3 harg3 arg4 harg4 arg5 harg5 arg6 harg6 arg7 harg7 arg8 harg8 arg9 harg9 arg10 harg10 arg11 harg11 arg12 harg12 X1 X2 X3 X4 g11) kernelRun.sl.cst_33 (ix2 0 l)
    = rsRow i arg1 arg2 arg3 arg4 X1 X2 X3 X4 (rowOf 0 l) := by
  unfold kernelRun.sl.r_2
  rw [rstd_first _ (batch i) (mask_apply i) _ _ (fun l => rowX arg2 X2 (rowOf 0 l)) (v34_apply c i arg1 harg1 arg2 harg2 arg3 harg3 arg4 harg4 arg5 harg5 arg6 harg6 arg7 harg7 arg8 harg8 arg9 harg9 arg10 harg10 arg11 harg11 arg12 harg12 X2 g11) (v41_apply c i arg1 harg1 arg2 harg2 arg3 harg3 arg4 harg4 arg5 harg5 arg6 harg6 arg7 harg7 arg8 harg8 arg9 harg9 arg10 harg10 arg11 harg11 arg12 harg12 X2 g11), count_eq,
    ldPeer i arg3 X3 0 _ (off59_eq i).1, ldPeer i arg4 X4 0 _ (off59_eq i).1]
  rfl

theorem r5_apply (l : Fin 128) : kernelRun.sl.r_5 (F := Ideal) c i arg1 harg1 arg2 harg2 arg3 harg3 arg4 harg4 arg5 harg5 arg6 harg6 arg7 harg7 arg8 harg8 arg9 harg9 arg10 harg10 arg11 harg11 arg12 harg12 X1 X2 X3 X4 g11 (ix2 0 l)
    = rsRow i arg1 arg2 arg3 arg4 X1 X2 X3 X4 (rowOf 1 l) := by
  unfold kernelRun.sl.r_5 kernelRun.sl.r_3
  rw [rstd_second _ (batch i) (mask_apply i) _ _ (fun l => rowX arg2 X2 (rowOf 1 l)) (v109_apply c i arg1 harg1 arg2 harg2 arg3 harg3 arg4 harg4 arg5 harg5 arg6 harg6 arg7 harg7 arg8 harg8 arg9 harg9 arg10 harg10 arg11 harg11 arg12 harg12 X2 g11) (v116_apply c i arg1 harg1 arg2 harg2 arg3 harg3 arg4 harg4 arg5 harg5 arg6 harg6 arg7 harg7 arg8 harg8 arg9 harg9 arg10 harg10 arg11 harg11 arg12 harg12 X2 g11), count_eq,
    ldPeer i arg3 X3 1 _ (off59_eq i).2, ldPeer i arg4 X4 1 _ (off59_eq i).2]
  rfl

end Cert.KernelIdeal.Hand
end
end
-- ==== Proof.KernelIdealTile.lean ====
/-
  One run of the kernel body at the ideal values: what it leaves in each of its four result windows.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp
public import Idealize.ShloMosaic.Lib.Pointwise
public import Idealize.ShloMosaic.Lib.Pipeline.ValueKit
public import proofs.«01_k».proof.Proof.Norm
public import proofs.«01_k».proof.Proof.KernelIdealLanes
public import proofs.«01_k».proof.Proof.KernelIdealRun
public import proofs.«01_k».proof.Proof.KernelIdealQuant
public import proofs.«01_k».proof.Proof.KernelIdealMerge
public import proofs.«01_k».proof.Proof.KernelIdealScales

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Cert.Norm
open Idealize.SL.BI.BIBase Idealize.SL.BI.Laws Idealize.SL.ProofMode Idealize.SL.Sem
open Idealize.ShloMosaic.Pipeline (Dat RDat Cfg Window BodyObligation cellOf)

variable (c : Dev nD) (i : grid0.Coords)
  (arg1 : Memref sig .tc .smem S1 .f32) (harg1 : arg1.IsWhole)
  (arg2 : Memref sig .tc .vmem S256x7168 .bf16) (harg2 : arg2.IsWhole)
  (arg3 : Memref sig .tc .vmem S1x4x4096 .f32) (harg3 : arg3.IsWhole)
  (arg4 : Memref sig .tc .vmem S1x4x4096 .f32) (harg4 : arg4.IsWhole)
  (arg5 : Memref sig .tc .vmem S1x7168 .f32) (harg5 : arg5.IsWhole)
  (arg6 : Memref sig .tc .vmem S1x7168 .f32) (harg6 : arg6.IsWhole)
  (arg7 : Memref sig .tc .vmem S256x7168 .fp8e4m3) (harg7 : arg7.IsWhole)
  (arg8 : Memref sig .tc .vmem S256x56 .f32) (harg8 : arg8.IsWhole)
  (arg9 : Memref sig .tc .vmem S4x4096 .f32) (harg9 : arg9.IsWhole)
  (arg10 : Memref sig .tc .vmem S4x4096 .f32) (harg10 : arg10.IsWhole)
  (arg11 : Memref sig .tc .vmem S2x256x128 .f32) (harg11 : arg11.IsWhole)
  (arg12 : Memref sig .tc .vmem S2x256x128 .f32) (harg12 : arg12.IsWhole)
  (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty)
  (g9 : BufTy.Contents (Elt Ideal) arg9.view.ty) (g10 : BufTy.Contents (Elt Ideal) arg10.view.ty) (g11 : BufTy.Contents (Elt Ideal) arg11.view.ty) (g12 X12 : BufTy.Contents (Elt Ideal) arg12.view.ty)
theorem pay389_apply (v : FVec Ideal S1x128 .f32) (a l : Fin 128) : k0_pay389 (F := Ideal) v (ix3 0 a l) = v (ix2 0 a) := by
  pointwise [k0_pay389]
theorem pay3_apply (v : FVec Ideal S1x128 .f32) (a l : Fin 128) : k0_pay3 (F := Ideal) v (ix3 0 a l) = v (ix2 0 a) := by
  pointwise [k0_pay3]
theorem pay4_apply (v : FVec Ideal S1x128 .f32) (a l : Fin 128) : k0_pay4 (F := Ideal) v (ix3 0 a l) = v (ix2 0 a) := by
  pointwise [k0_pay4]
theorem pay390_apply (v : FVec Ideal S1x128 .f32) (cst : Ideal .f32) (a l : Fin 128) : k0_pay390 (F := Ideal) v cst (ix3 0 a l) = k0_pay386 v cst (ix2 0 a) := by
  unfold k0_pay390
  generalize k0_pay386 v cst = w
  pointwise []

theorem eta3c (x : S1x128x128.Idx) : x = ix3 0 (x 1) (x 2) := by
  funext a
  match a with
  | ⟨0, _⟩ => exact Subsingleton.elim (α := Fin 1) _ _
  | ⟨1, _⟩ => rfl
  | ⟨2, _⟩ => rfl

/-- The columns the second loop reads: the means in the first plane, the reciprocal deviations in the second. -/
def cols (y : S2x256x128.Idx) : EReal :=
  if (y 0).val = 0 then muRow i arg1 arg2 arg3 X1 X2 X3 (y 1) else rsRow i arg1 arg2 arg3 arg4 X1 X2 X3 X4 (y 1)

theorem col_piece (w : FVec Ideal S1x128x128 .f32) (z h : Fin 2) (u : Fin 256 → EReal) (hw : ∀ a l : Fin 128, w (ix3 0 a l) = u (rowOf h a))
    (hu : u = if z.val = 0 then muRow i arg1 arg2 arg3 X1 X2 X3 else rsRow i arg1 arg2 arg3 arg4 X1 X2 X3 X4)
    (x : S1x128x128.Idx) (y : S2x256x128.Idx) (e : ∀ a, (y a).val = (![z.val, 128 * h.val, 0] : Fin 3 → Nat) a + 1 * (x a).val) :
    w x = cols i arg1 arg2 arg3 arg4 X1 X2 X3 X4 y := by
  obtain ⟨r, l, rfl⟩ : ∃ (r l : Fin 128), x = ix3 0 r l := ⟨x 1, x 2, eta3c x⟩
  have e0 : (y 0).val = z.val + 1 * 0 := e 0
  have e1 : rowOf h r = y 1 :=
    Fin.ext (by have : (y 1).val = 128 * h.val + 1 * r.val := e 1; show 128 * h.val + r.val = (y 1).val; omega)
  unfold cols
  rw [hw, e1, hu, show (y 0).val = z.val by omega]
  split <;> rfl

theorem cols12 : View.canon (kernelRun.sl.H12_4 (F := Ideal) c i arg1 harg1 arg2 harg2 arg3 harg3 arg4 harg4 arg5 harg5 arg6 harg6 arg7 harg7 arg8 harg8 arg9 harg9 arg10 harg10 arg11 harg11 arg12 harg12 X1 X2 X3 X4 g11) = cols i arg1 arg2 arg3 arg4 X1 X2 X3 X4 := by
  funext y
  have h0 : (y 0).val < 2 := (y 0).isLt
  have h1 : (y 1).val < 256 := (y 1).isLt
  have h2 : (y 2).val < 128 := (y 2).isLt
  have hr : ∀ z h : Fin 2, ∀ inb, ((y 0).val = z.val ∧ 128 * h.val ≤ (y 1).val ∧ (y 1).val < 128 * h.val + 128) →
      y ∈ (Rect.unit (s := S2x256x128) ![z.val, 128 * h.val, 0] S1x128x128.size inb).set := by
    intro z h inb hy
    rw [Rect.mem_set_unit]
    intro a
    match a with
    | ⟨0, _⟩ => show z.val ≤ (y 0).val ∧ (y 0).val < z.val + 1; omega
    | ⟨1, _⟩ => show 128 * h.val ≤ (y 1).val ∧ (y 1).val < 128 * h.val + 128; omega
    | ⟨2, _⟩ => show 0 ≤ (y 2).val ∧ (y 2).val < 0 + 128; omega
  unfold kernelRun.sl.H12_4
  refine View.canon_eq_of_allAt _ y _ ?_ ?_
  · by_cases hz : (y 0).val = 0
    · by_cases hh : (y 1).val < 128
      · exact ⟨_, .tail _ (.tail _ (.tail _ (.head _))), hr 0 0 inb_S2x256x128_S1x128x128_0_0_0 ⟨hz, Nat.zero_le _, hh⟩⟩
      · exact ⟨_, .tail _ (.head _), hr 0 1 inb_S2x256x128_S1x128x128_0_128_0 ⟨hz, Nat.le_of_not_lt hh, h1⟩⟩
    · by_cases hh : (y 1).val < 128
      · exact ⟨_, .tail _ (.tail _ (.head _)), hr 1 0 inb_S2x256x128_S1x128x128_1_0_0 ⟨(by omega : (y 0).val = 1), Nat.zero_le _, hh⟩⟩
      · exact ⟨_, .head _, hr 1 1 inb_S2x256x128_S1x128x128_1_128_0 ⟨(by omega : (y 0).val = 1), Nat.le_of_not_lt hh, h1⟩⟩
  · intro p hp
    simp only [List.mem_cons, List.not_mem_nil, _root_.or_false] at hp
    rcases hp with rfl | rfl | rfl | rfl
    · intro x hx
      refine col_piece i arg1 arg2 arg3 arg4 X1 X2 X3 X4 _ 1 1 _ (fun a l => (pay4_apply _ a l).trans (r5_apply c i arg1 harg1 arg2 harg2 arg3 harg3 arg4 harg4 arg5 harg5 arg6 harg6 arg7 harg7 arg8 harg8 arg9 harg9 arg10 harg10 arg11 harg11 arg12 harg12 X1 X2 X3 X4 g11 a)) rfl x y fun a => ?_
      rw [← hx]; rfl
    · intro x hx
      refine col_piece i arg1 arg2 arg3 arg4 X1 X2 X3 X4 _ 0 1 _ (fun a l => (pay3_apply _ a l).trans (r4_apply c i arg1 harg1 arg2 harg2 arg3 harg3 arg4 harg4 arg5 harg5 arg6 harg6 arg7 harg7 arg8 harg8 arg9 harg9 arg10 harg10 arg11 harg11 arg12 harg12 X1 X2 X3 g11 a)) rfl x y fun a => ?_
      rw [← hx]; rfl
    · intro x hx
      refine col_piece i arg1 arg2 arg3 arg4 X1 X2 X3 X4 _ 1 0 _ (fun a l => (pay390_apply _ _ a l).trans (r2_apply c i arg1 harg1 arg2 harg2 arg3 harg3 arg4 harg4 arg5 harg5 arg6 harg6 arg7 harg7 arg8 harg8 arg9 harg9 arg10 harg10 arg11 harg11 arg12 harg12 X1 X2 X3 X4 g11 a)) rfl x y fun a => ?_
      rw [← hx]; rfl
    · intro x hx
      refine col_piece i arg1 arg2 arg3 arg4 X1 X2 X3 X4 _ 0 0 _ (fun a l => (pay389_apply _ a l).trans (r1_apply c i arg1 harg1 arg2 harg2 arg3 harg3 arg4 harg4 arg5 harg5 arg6 harg6 arg7 harg7 arg8 harg8 arg9 harg9 arg10 harg10 arg11 harg11 arg12 harg12 X1 X2 X3 g11 a)) rfl x y fun a => ?_
      rw [← hx]; rfl

theorem cols_apply (z : Fin 2) (r : Fin 256) (l : Fin 128) :
    arg12.view.read (Elt Ideal) (arg12.view.writes (Elt Ideal) arg12.view.junk (kernelRun.sl.H12_4 (F := Ideal) c i arg1 harg1 arg2 harg2 arg3 harg3 arg4 harg4 arg5 harg5 arg6 harg6 arg7 harg7 arg8 harg8 arg9 harg9 arg10 harg10 arg11 harg11 arg12 harg12 X1 X2 X3 X4 g11)) (ix3 z r l)
      = if z.val = 0 then muRow i arg1 arg2 arg3 X1 X2 X3 r else rsRow i arg1 arg2 arg3 arg4 X1 X2 X3 X4 r := by
  rw [View.read_writes_junk_eq_canon, cols12]
  rfl

/-- Block `j` of row `r` of the tile, normalised. -/
def rowNorm (r : Fin 256) (j : Fin 56) (l : Fin 128) : EReal :=
  normRow arg2 arg5 arg6 X2 X5 X6 (muRow i arg1 arg2 arg3 X1 X2 X3) (rsRow i arg1 arg2 arg3 arg4 X1 X2 X3 X4) r j l

/-- The codes' window after the body. -/
theorem codes_run (g7 : BufTy.Contents (Elt Ideal) arg7.view.ty) (y : S256x7168.Idx) :
    arg7.view.read (Elt Ideal) (arg7.view.writes (Elt Ideal) g7 (kernelRun (F := Ideal) c i arg1 harg1 arg2 harg2 arg3 harg3 arg4 harg4 arg5 harg5 arg6 harg6 arg7 harg7 arg8 harg8 arg9 harg9 arg10 harg10 arg11 harg11 arg12 harg12 X1 X2 X3 X4 X5 X6 g9 g10 g11 g12).1) y
      = code (rowNorm i arg1 arg2 arg3 arg4 arg5 arg6 X1 X2 X3 X4 X5 X6 (y 0) ⟨(y 1).val / 128, by have : (y 1).val < 7168 := (y 1).isLt; omega⟩) ⟨(y 1).val % 128, by omega⟩ := by
  unfold kernelRun
  dsimp only
  refine (View.read_writes_apply_eq_canon _ _ _ _ (cover_codes c i arg1 harg1 arg2 harg2 arg3 harg3 arg4 harg4 arg5 harg5 arg6 harg6 arg7 harg7 arg8 harg8 arg9 harg9 arg10 harg10 arg11 harg11 arg12 harg12 X2 X5 X6 _ y)).trans ?_
  exact congrFun (codes_canon c i arg1 harg1 arg2 harg2 arg3 harg3 arg4 harg4 arg5 harg5 arg6 harg6 arg7 harg7 arg8 harg8 arg9 harg9 arg10 harg10 arg11 harg11 arg12 harg12 X2 X5 X6 _ _ _ (cols_apply c i arg1 harg1 arg2 harg2 arg3 harg3 arg4 harg4 arg5 harg5 arg6 harg6 arg7 harg7 arg8 harg8 arg9 harg9 arg10 harg10 arg11 harg11 arg12 harg12 X1 X2 X3 X4 g11)) y

/-- The scales' window after the body. -/
theorem scales_run (g8 : BufTy.Contents (Elt Ideal) arg8.view.ty) (y : S256x56.Idx) :
    arg8.view.read (Elt Ideal) (arg8.view.writes (Elt Ideal) g8 (kernelRun (F := Ideal) c i arg1 harg1 arg2 harg2 arg3 harg3 arg4 harg4 arg5 harg5 arg6 harg6 arg7 harg7 arg8 harg8 arg9 harg9 arg10 harg10 arg11 harg11 arg12 harg12 X1 X2 X3 X4 X5 X6 g9 g10 g11 g12).2.1) y
      = scale (rowNorm i arg1 arg2 arg3 arg4 arg5 arg6 X1 X2 X3 X4 X5 X6 (y 0) (y 1)) := by
  unfold kernelRun
  dsimp only
  refine (View.read_writes_apply_eq_canon _ _ _ _ (cover_scales c i arg1 harg1 arg2 harg2 arg3 harg3 arg4 harg4 arg5 harg5 arg6 harg6 arg7 harg7 arg8 harg8 arg9 harg9 arg10 harg10 arg11 harg11 arg12 harg12 X2 X5 X6 _ y)).trans ?_
  exact congrFun (scales_canon c i arg1 harg1 arg2 harg2 arg3 harg3 arg4 harg4 arg5 harg5 arg6 harg6 arg7 harg7 arg8 harg8 arg9 harg9 arg10 harg10 arg11 harg11 arg12 harg12 X2 X5 X6 _ _ _ (cols_apply c i arg1 harg1 arg2 harg2 arg3 harg3 arg4 harg4 arg5 harg5 arg6 harg6 arg7 harg7 arg8 harg8 arg9 harg9 arg10 harg10 arg11 harg11 arg12 harg12 X1 X2 X3 X4 g11)) y

/-! ## The two statistics windows -/

theorem select_row (p : Prop) [Decidable p] (u v : EReal) : Scalar.select (if p then 1#1 else 0#1) u v = if p then u else v := by
  split <;> rfl

theorem pay387_apply (v31 : IVec S4x128 1) (v66 : FVec Ideal S1x128 .f32) (v80 : Vec Ideal S4x128 .f32) (a : Fin 4) (l : Fin 128) :
    k0_pay387 (F := Ideal) v31 v66 v80 (ix2 a l) = Scalar.select (v31 (ix2 a l)) (v66 (ix2 0 l)) (v80 (ix2 a l)) := by
  pointwise [k0_pay387]
theorem pay1_apply (v31 : IVec S4x128 1) (v66 : FVec Ideal S1x128 .f32) (v80 : Vec Ideal S4x128 .f32) (a : Fin 4) (l : Fin 128) :
    k0_pay1 (F := Ideal) v31 (k0_pay397 v80) v66 (ix2 a l) = Scalar.select (v31 (ix2 a l)) (v66 (ix2 0 l)) (v80 (ix2 a l)) := by
  pointwise [k0_pay1, k0_pay397]
theorem pay2_apply (v31 : IVec S4x128 1) (v66 : FVec Ideal S1x128 .f32) (v80 : Vec Ideal S4x128 .f32) (a : Fin 4) (l : Fin 128) :
    k0_pay2 (F := Ideal) v31 v66 v80 (ix2 a l) = Scalar.select (v31 (ix2 a l)) (v66 (ix2 0 l)) (v80 (ix2 a l)) := by
  pointwise [k0_pay2]
theorem pay388_apply (v31 : IVec S4x128 1) (v75 : FVec Ideal S1x128 .f32) (cst : Ideal .f32) (v80 : Vec Ideal S4x128 .f32) (a : Fin 4) (l : Fin 128) :
    k0_pay388 (F := Ideal) v31 v75 cst v80 (ix2 a l) = Scalar.select (v31 (ix2 a l)) (k0_pay386 v75 cst (ix2 0 l)) (v80 (ix2 a l)) := by
  unfold k0_pay388
  generalize k0_pay386 v75 cst = w
  pointwise []

/-- A statistics array with the tile's 256 places of its batch row replaced by `u`. -/
def put (u : Fin 256 → EReal) (old : S4x4096.Idx → EReal) (y : S4x4096.Idx) : EReal :=
  if (y 1).val / 256 = (i 0).val % 16 then (if (y 0).val = (batch i).val then u ⟨(y 1).val % 256, by omega⟩ else old y) else old y

theorem ldStat (arg : Memref sig .tc .vmem S4x4096 .f32) (X : BufTy.Contents (Elt Ideal) arg.view.ty) (h : Fin 2) (off : Fin 2 → Nat)
    (hoff : off = ![0, (256 * (i 0).val) % 4096 + 128 * h.val]) (inb : ∀ a, off a + S4x128.size a ≤ S4x4096.size a) (b : Fin 4) (l : Fin 128) :
    View.readAt (Elt Ideal) arg.view (Rect.unit (s := S4x4096) off S4x128.size inb).toLoadRect X (ix2 b l)
      = arg.view.read (Elt Ideal) X (ix2 b (seqOf i (rowOf h l))) := by
  subst hoff
  rw [View.readAt_eq_ld]
  refine View.ld_unit_apply_of _ _ _ _ _ _ fun a => ?_
  match a with
  | ⟨0, _⟩ => show b.val = 0 + b.val; omega
  | ⟨1, _⟩ => show (256 * (i 0).val) % 4096 + (128 * h.val + l.val) = (256 * (i 0).val) % 4096 + 128 * h.val + l.val; omega

theorem put_piece (arg : Memref sig .tc .vmem S4x4096 .f32) (X : BufTy.Contents (Elt Ideal) arg.view.ty) (u : Fin 256 → EReal) (h : Fin 2)
    (w : FVec Ideal S4x128 .f32) (v80 : Vec Ideal S4x128 .f32) (v66 : FVec Ideal S1x128 .f32)
    (hw : ∀ (a : Fin 4) (l : Fin 128), w (ix2 a l) = Scalar.select (k0_pay380 i (ix2 a l)) (v66 (ix2 0 l)) (v80 (ix2 a l)))
    (h66 : ∀ l : Fin 128, v66 (ix2 0 l) = u (rowOf h l))
    (h80 : ∀ (a : Fin 4) (l : Fin 128), v80 (ix2 a l) = arg.view.read (Elt Ideal) X (ix2 a (seqOf i (rowOf h l))))
    (x : S4x128.Idx) (y : S4x4096.Idx) (e : ∀ a, (y a).val = (![0, (256 * (i 0).val) % 4096 + 128 * h.val] : Fin 2 → Nat) a + 1 * (x a).val) :
    w x = put i u (arg.view.read (Elt Ideal) X) y := by
  obtain ⟨r, l, rfl⟩ : ∃ (r : Fin 4) (l : Fin 128), x = ix2 r l := ⟨x 0, x 1, eta2k x⟩
  have hi : (i 0).val < 64 := (i 0).isLt
  have e0 : r = y 0 := Fin.ext (by have : (y 0).val = 0 + 1 * r.val := e 0; omega)
  have e1' : (y 1).val = (256 * (i 0).val) % 4096 + 128 * h.val + 1 * l.val := e 1
  have e1 : seqOf i (rowOf h l) = y 1 :=
    Fin.ext (by show (256 * (i 0).val) % 4096 + (128 * h.val + l.val) = (y 1).val; omega)
  have e2 : (⟨(y 1).val % 256, by omega⟩ : Fin 256) = rowOf h l := Fin.ext (by show (y 1).val % 256 = 128 * h.val + l.val; omega)
  have e3 : (y 1).val / 256 = (i 0).val % 16 := by omega
  have e4 : (r = batch i) = ((y 0).val = (batch i).val) := by rw [e0]; exact propext Fin.ext_iff
  have e5 : ix2 r (seqOf i (rowOf h l)) = y := by rw [e0, e1]; exact (eta2k y).symm
  unfold put
  rw [hw, mask_apply, select_row, h66, h80, e5, if_pos e3, e2]
  simp only [e4]

theorem mem_stat (h : Fin 2) (off : Fin 2 → Nat) (hoff : off = ![0, (256 * (i 0).val) % 4096 + 128 * h.val])
    (inb : ∀ a, off a + S4x128.size a ≤ S4x4096.size a) (y : S4x4096.Idx) :
    y ∈ (Rect.unit (s := S4x4096) off S4x128.size inb).set
      ↔ (256 * (i 0).val) % 4096 + 128 * h.val ≤ (y 1).val ∧ (y 1).val < (256 * (i 0).val) % 4096 + 128 * h.val + 128 := by
  subst hoff
  have h0 : (y 0).val < 4 := (y 0).isLt
  rw [Rect.mem_set_unit]
  constructor
  · intro H; exact H 1
  · intro H a
    match a with
    | ⟨0, _⟩ => show 0 ≤ (y 0).val ∧ (y 0).val < 0 + 4; omega
    | ⟨1, _⟩ => exact H

/-- Two stores, one per half of the tile, replace the tile's places. -/
theorem put_run (arg : Memref sig .tc .vmem S4x4096 .f32) (X : BufTy.Contents (Elt Ideal) arg.view.ty) (u : Fin 256 → EReal)
    (off1 off0 : Fin 2 → Nat) (hoff1 : off1 = ![0, (256 * (i 0).val) % 4096 + 128 * (1 : Fin 2).val]) (hoff0 : off0 = ![0, (256 * (i 0).val) % 4096 + 128 * (0 : Fin 2).val])
    (inb1 : ∀ a, off1 a + S4x128.size a ≤ S4x4096.size a) (inb0 : ∀ a, off0 a + S4x128.size a ≤ S4x4096.size a) (w1 w0 : FVec Ideal S4x128 .f32)
    (v1 v0 : FVec Ideal S1x128 .f32)
    (hw1 : ∀ (a : Fin 4) (l : Fin 128), w1 (ix2 a l) = Scalar.select (k0_pay380 i (ix2 a l)) (v1 (ix2 0 l))
      (View.readAt (Elt Ideal) arg.view (Rect.unit (s := S4x4096) off1 S4x128.size inb1).toLoadRect X (ix2 a l)))
    (hw0 : ∀ (a : Fin 4) (l : Fin 128), w0 (ix2 a l) = Scalar.select (k0_pay380 i (ix2 a l)) (v0 (ix2 0 l))
      (View.readAt (Elt Ideal) arg.view (Rect.unit (s := S4x4096) off0 S4x128.size inb0).toLoadRect X (ix2 a l)))
    (h1 : ∀ l : Fin 128, v1 (ix2 0 l) = u (rowOf 1 l)) (h0 : ∀ l : Fin 128, v0 (ix2 0 l) = u (rowOf 0 l)) (y : S4x4096.Idx) :
    arg.view.read (Elt Ideal) (arg.view.writes (Elt Ideal) X
      [⟨Rect.unit (s := S4x4096) off1 S4x128.size inb1, w1⟩, ⟨Rect.unit (s := S4x4096) off0 S4x128.size inb0, w0⟩]) y
      = put i u (arg.view.read (Elt Ideal) X) y := by
  have hi : (i 0).val < 64 := (i 0).isLt
  have m1 := mem_stat i 1 off1 hoff1 inb1 y
  have m0 := mem_stat i 0 off0 hoff0 inb0 y
  have z1 : 128 * (1 : Fin 2).val = 128 := rfl
  have z0 : 128 * (0 : Fin 2).val = 0 := rfl
  rw [z1] at m1; rw [z0] at m0
  by_cases hy : (y 1).val / 256 = (i 0).val % 16
  · refine (View.read_writes_apply_eq_canon _ _ _ _ ?c).trans (View.canon_eq_of_allAt _ y _ ?c ?_)
    case c =>
      by_cases hh : (y 1).val < (256 * (i 0).val) % 4096 + 128
      · exact ⟨_, .tail _ (.head _), m0.mpr (by omega)⟩
      · exact ⟨_, .head _, m1.mpr (by omega)⟩
    intro p hp
    simp only [List.mem_cons, List.not_mem_nil, _root_.or_false] at hp
    rcases hp with rfl | rfl
    · intro x hx
      refine put_piece i arg X u 1 w1 _ v1 hw1 h1 (fun a l => ldStat i arg X 1 off1 hoff1 inb1 a l) x y fun a => ?_
      rw [← hx]; exact congrArg (fun o : Fin 2 → Nat => o a + 1 * (x a).val) hoff1
    · intro x hx
      refine put_piece i arg X u 0 w0 _ v0 hw0 h0 (fun a l => ldStat i arg X 0 off0 hoff0 inb0 a l) x y fun a => ?_
      rw [← hx]; exact congrArg (fun o : Fin 2 → Nat => o a + 1 * (x a).val) hoff0
  · unfold put
    rw [if_neg hy]
    refine View.read_writes_apply_of_forall_not_mem _ _ _ _ fun p hp => ?_
    simp only [List.mem_cons, List.not_mem_nil, _root_.or_false] at hp
    rcases hp with rfl | rfl
    · exact fun h => hy (by have := m1.mp h; omega)
    · exact fun h => hy (by have := m0.mp h; omega)

/-- The means' window after the body. -/
theorem means_run (y : S4x4096.Idx) :
    arg9.view.read (Elt Ideal) (arg9.view.writes (Elt Ideal) g9 (kernelRun (F := Ideal) c i arg1 harg1 arg2 harg2 arg3 harg3 arg4 harg4 arg5 harg5 arg6 harg6 arg7 harg7 arg8 harg8 arg9 harg9 arg10 harg10 arg11 harg11 arg12 harg12 X1 X2 X3 X4 X5 X6 g9 g10 g11 g12).2.2.1) y
      = put i (muRow i arg1 arg2 arg3 X1 X2 X3) (arg9.view.read (Elt Ideal) g9) y := by
  unfold kernelRun
  dsimp only
  refine put_run i arg9 g9 _ _ _ (off60_eq i).2 (off60_eq i).1 _ _ _ _ _ _ (fun a l => ?_) (fun a l => pay387_apply _ _ _ a l)
    (r7_apply c i arg1 harg1 arg2 harg2 arg3 harg3 arg4 harg4 arg5 harg5 arg6 harg6 arg7 harg7 arg8 harg8 arg9 harg9 arg10 harg10 arg11 harg11 arg12 harg12 X1 X2 X3 g11) (r1_apply c i arg1 harg1 arg2 harg2 arg3 harg3 arg4 harg4 arg5 harg5 arg6 harg6 arg7 harg7 arg8 harg8 arg9 harg9 arg10 harg10 arg11 harg11 arg12 harg12 X1 X2 X3 g11) y
  unfold kernelRun.sl.r_6 kernelRun.sl.v155
  exact pay1_apply _ _ _ a l

/-- The reciprocal deviations' window after the body. -/
theorem rstds_run (y : S4x4096.Idx) :
    arg10.view.read (Elt Ideal) (arg10.view.writes (Elt Ideal) g10 (kernelRun (F := Ideal) c i arg1 harg1 arg2 harg2 arg3 harg3 arg4 harg4 arg5 harg5 arg6 harg6 arg7 harg7 arg8 harg8 arg9 harg9 arg10 harg10 arg11 harg11 arg12 harg12 X1 X2 X3 X4 X5 X6 g9 g10 g11 g12).2.2.2.1) y
      = put i (rsRow i arg1 arg2 arg3 arg4 X1 X2 X3 X4) (arg10.view.read (Elt Ideal) g10) y := by
  unfold kernelRun
  dsimp only
  refine put_run i arg10 g10 _ _ _ (off60_eq i).2 (off60_eq i).1 _ _ _ _ _ _ (fun a l => ?_) (fun a l => pay388_apply _ _ _ _ a l)
    (r5_apply c i arg1 harg1 arg2 harg2 arg3 harg3 arg4 harg4 arg5 harg5 arg6 harg6 arg7 harg7 arg8 harg8 arg9 harg9 arg10 harg10 arg11 harg11 arg12 harg12 X1 X2 X3 X4 g11) (r2_apply c i arg1 harg1 arg2 harg2 arg3 harg3 arg4 harg4 arg5 harg5 arg6 harg6 arg7 harg7 arg8 harg8 arg9 harg9 arg10 harg10 arg11 harg11 arg12 harg12 X1 X2 X3 X4 g11) y
  unfold kernelRun.sl.v163
  exact pay2_apply _ _ _ a l

end Cert.KernelIdeal.Hand
end
end
-- ==== Proof.KernelIdealInputs.lean ====
/- The six inputs of the problem, and the blocks of them that the kernel's windows hold at a grid point. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp
public import Idealize.ShloMosaic.Lib.Pointwise
public import Idealize.ShloMosaic.Lib.Pipeline.ValueKit
public import proofs.«01_k».proof.Proof.Norm
public import proofs.«01_k».proof.Proof.KernelIdealLanes
public import proofs.«01_k».proof.Proof.KernelIdealRun
public import proofs.«01_k».proof.Proof.KernelIdealQuant
public import proofs.«01_k».proof.Proof.KernelIdealMerge
public import proofs.«01_k».proof.Proof.KernelIdealScales
public import proofs.«01_k».proof.Proof.KernelIdealTile
public import proofs.«01_k».proof.Proof.KernelIdealBody

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Cert.Norm
open Idealize.SL.BI.BIBase Idealize.SL.BI.Laws Idealize.SL.ProofMode Idealize.SL.Sem
open Idealize.ShloMosaic.Pipeline (Dat RDat Cfg Window BodyObligation cellOf)

variable (m : (ℓ : Loc nD τ sig) → Buf (Elt Ideal) ℓ) (ρ : Dev nD → PrngReg)

/-! ## The six inputs -/

abbrev inX (c : Dev nD) : Fin 4 → Fin 4096 → Fin 7168 → EReal := fun b s ch => m ((c : Thread nD τ).loc main_arg0) (ix3 b s ch)
abbrev inN (c : Dev nD) : EReal := m ((c : Thread nD τ).loc main_arg1) (ix1 0)
abbrev inPm (c : Dev nD) : Fin 4 → Fin 4096 → EReal := fun b s => m ((c : Thread nD τ).loc main_arg2) (ix3 0 b s)
abbrev inP2 (c : Dev nD) : Fin 4 → Fin 4096 → EReal := fun b s => m ((c : Thread nD τ).loc main_arg3) (ix3 0 b s)
abbrev inG (c : Dev nD) : Fin 7168 → EReal := fun ch => m ((c : Thread nD τ).loc main_arg4) (ix1 ch)
abbrev inBe (c : Dev nD) : Fin 7168 → EReal := fun ch => m ((c : Thread nD τ).loc main_arg5) (ix1 ch)

/-! ## The blocks the windows hold at a grid point -/

/-- The grid is one axis long: a point's coordinate is its number. -/
theorem coord_val : ∀ t : Fin cfg0.N, (grid0.coords t 0).val = t.val := by decide +kernel

theorem index_x : ∀ t : Fin cfg0.N, win0_1.index t 0 = t.val ∧ win0_1.index t 1 = 0 := by decide +kernel
theorem index_codes : ∀ t : Fin cfg0.N, win0_6.index t 0 = t.val ∧ win0_6.index t 1 = 0 := by decide +kernel
theorem index_scales : ∀ t : Fin cfg0.N, win0_7.index t 0 = t.val ∧ win0_7.index t 1 = 0 := by decide +kernel
theorem index_count : ∀ t : Fin cfg0.N, ∀ a, win0_0.index t a = 0 := by decide +kernel
theorem index_pm : ∀ t : Fin cfg0.N, ∀ a, win0_2.index t a = 0 := by decide +kernel
theorem index_p2 : ∀ t : Fin cfg0.N, ∀ a, win0_3.index t a = 0 := by decide +kernel
theorem index_g : ∀ t : Fin cfg0.N, ∀ a, win0_4.index t a = 0 := by decide +kernel
theorem index_be : ∀ t : Fin cfg0.N, ∀ a, win0_5.index t a = 0 := by decide +kernel

theorem blk_count (c : Dev nD) (t : Fin cfg0.N) : iblk (F := Ideal) m c 0 t (ix1 0) = inN m c := by
  blk_ext [iblk, V, index_count]

theorem blk_pm (c : Dev nD) (t : Fin cfg0.N) (b : Fin 4) (s : Fin 4096) : iblk (F := Ideal) m c 2 t (ix3 0 b s) = inPm m c b s := by
  blk_ext [iblk, V, index_pm]

theorem blk_p2 (c : Dev nD) (t : Fin cfg0.N) (b : Fin 4) (s : Fin 4096) : iblk (F := Ideal) m c 3 t (ix3 0 b s) = inP2 m c b s := by
  blk_ext [iblk, V, index_p2]

theorem blk_g (c : Dev nD) (t : Fin cfg0.N) (k : Fin 7168) : iblk (F := Ideal) m c 4 t (ix2 0 k) = inG m c k := by
  blk_ext! [iblk, V, index_g]

theorem blk_be (c : Dev nD) (t : Fin cfg0.N) (k : Fin 7168) : iblk (F := Ideal) m c 5 t (ix2 0 k) = inBe m c k := by
  blk_ext! [iblk, V, index_be]

theorem blk_x (c : Dev nD) (t : Fin cfg0.N) (r : Fin 256) (ch : Fin 7168) :
    iblk (F := Ideal) m c 1 t (ix2 r ch) = inX m c (batch (grid0.coords t)) (seqOf (grid0.coords t) r) ch := by
  blk_ext! [iblk, V, index_x t, batch, seqOf, coord_val]

end Cert.KernelIdeal.Hand

end

end
-- ==== Proof.KernelIdealPoint.lean ====
/- What a grid point leaves in its four results, in terms of the six inputs. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp
public import Idealize.ShloMosaic.Lib.Pointwise
public import Idealize.ShloMosaic.Lib.Pipeline.ValueKit
public import proofs.«01_k».proof.Proof.Norm
public import proofs.«01_k».proof.Proof.KernelIdealLanes
public import proofs.«01_k».proof.Proof.KernelIdealRun
public import proofs.«01_k».proof.Proof.KernelIdealQuant
public import proofs.«01_k».proof.Proof.KernelIdealMerge
public import proofs.«01_k».proof.Proof.KernelIdealScales
public import proofs.«01_k».proof.Proof.KernelIdealTile
public import proofs.«01_k».proof.Proof.KernelIdealBody
public import proofs.«01_k».proof.Proof.KernelIdealInputs

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Cert.Norm
open Idealize.SL.BI.BIBase Idealize.SL.BI.Laws Idealize.SL.ProofMode Idealize.SL.Sem
open Idealize.ShloMosaic.Pipeline (Dat RDat Cfg Window BodyObligation cellOf)

/-! ## What one grid point computes, from the inputs -/

section
variable (i : grid0.Coords) (arg1 : Memref sig .tc .smem S1 .f32) (arg2 : Memref sig .tc .vmem S256x7168 .bf16) (arg3 arg4 : Memref sig .tc .vmem S1x4x4096 .f32) (arg5 arg6 : Memref sig .tc .vmem S1x7168 .f32)
  (X1 : BufTy.Contents (Elt Ideal) arg1.view.ty) (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty)
  (n : EReal) (x : Fin 4 → Fin 4096 → Fin 7168 → EReal) (pm p2 : Fin 4 → Fin 4096 → EReal) (g be : Fin 7168 → EReal)
  (h1 : arg1.view.read (Elt Ideal) X1 (ix1 0) = n)
  (h2 : ∀ (r : Fin 256) (ch : Fin 7168), arg2.view.read (Elt Ideal) X2 (ix2 r ch) = x (batch i) (seqOf i r) ch)
  (h3 : ∀ (b : Fin 4) (s : Fin 4096), arg3.view.read (Elt Ideal) X3 (ix3 0 b s) = pm b s)
  (h4 : ∀ (b : Fin 4) (s : Fin 4096), arg4.view.read (Elt Ideal) X4 (ix3 0 b s) = p2 b s)
  (h5 : ∀ k : Fin 7168, arg5.view.read (Elt Ideal) X5 (ix2 0 k) = g k)
  (h6 : ∀ k : Fin 7168, arg6.view.read (Elt Ideal) X6 (ix2 0 k) = be k)

include h1 h2 h3 in
theorem muRow_of (r : Fin 256) : muRow i arg1 arg2 arg3 X1 X2 X3 r = meanAt n x pm (batch i) (seqOf i r) := by
  unfold muRow meanAt
  rw [h1, h3, show rowX arg2 X2 r = x (batch i) (seqOf i r) from funext fun ch => h2 r ch]

include h1 h2 h3 h4 in
theorem rsRow_of (r : Fin 256) : rsRow i arg1 arg2 arg3 arg4 X1 X2 X3 X4 r = rstdAt n x pm p2 (batch i) (seqOf i r) := by
  unfold rsRow rstdAt
  rw [h1, h3, h4, show rowX arg2 X2 r = x (batch i) (seqOf i r) from funext fun ch => h2 r ch]

include h1 h2 h3 h4 h5 h6 in
theorem rowNorm_of (r : Fin 256) : rowNorm i arg1 arg2 arg3 arg4 arg5 arg6 X1 X2 X3 X4 X5 X6 r = normAt n x pm p2 g be (batch i) (seqOf i r) := by
  funext j l
  unfold rowNorm normRow normAt
  rw [muRow_of i arg1 arg2 arg3 X1 X2 X3 n x pm h1 h2 h3 r, rsRow_of i arg1 arg2 arg3 arg4 X1 X2 X3 X4 n x pm p2 h1 h2 h3 h4 r, h5, h6,
    show rowX arg2 X2 r = x (batch i) (seqOf i r) from funext fun ch => h2 r ch]

end

variable (m : (ℓ : Loc nD τ sig) → Buf (Elt Ideal) ℓ) (ρ : Dev nD → PrngReg)

/-- The row of the flattened batch that row `r` of point `t`'s tile is. -/
def flat (t : Fin cfg0.N) (r : Fin 256) : Fin 16384 := ⟨256 * t.val + r.val, by have : t.val < 64 := t.isLt; omega⟩

theorem flat_batch (t : Fin cfg0.N) (r : Fin 256) (h : (flat t r).val / 4096 < 4) : (⟨(flat t r).val / 4096, h⟩ : Fin 4) = batch (grid0.coords t) := by
  refine Fin.ext ?_
  show (256 * t.val + r.val) / 4096 = (grid0.coords t 0).val / 16
  rw [coord_val]
  omega

theorem flat_seq (t : Fin cfg0.N) (r : Fin 256) (h : (flat t r).val % 4096 < 4096) : (⟨(flat t r).val % 4096, h⟩ : Fin 4096) = seqOf (grid0.coords t) r := by
  refine Fin.ext ?_
  show (256 * t.val + r.val) % 4096 = (256 * (grid0.coords t 0).val) % 4096 + r.val
  rw [coord_val]
  omega

/-- The codes a point leaves. -/
theorem after6_eq (c : Dev nD) (t : Fin cfg0.N) (Y X : Vec Ideal S256x7168 .fp8e4m3) (h : after6 m c t Y X) (r : Fin 256) (k : Fin 7168) :
    X (ix2 r k) = codeAt (inN m c) (inX m c) (inPm m c) (inP2 m c) (inG m c) (inBe m c) (flat t r) k := by
  obtain ⟨Y8, Y9, g11, g12, rfl⟩ := h
  refine (codes_run c (grid0.coords t) _ _ _ _ _ _ _ _ _ _ _ _ _ _ _ _ _ _ _ _ _ _ _ _ _ _ _ _ _ _ _ _ _ _ _ (ix2 r k)).trans ?_
  show code (rowNorm _ _ _ _ _ _ _ _ _ _ _ _ _ r _) _ = _
  rw [rowNorm_of (grid0.coords t) _ _ _ _ _ _ _ _ _ _ _ _ (inN m c) (inX m c) (inPm m c) (inP2 m c) (inG m c) (inBe m c)
    ((congrFun ((hstage0_0 _).read_unread _) _).trans (blk_count m c t))
    (fun r ch => (congrFun ((hstage0_1 _).read_unread _) _).trans (blk_x m c t r ch))
    (fun b s => (congrFun ((hstage0_2 _).read_unread _) _).trans (blk_pm m c t b s))
    (fun b s => (congrFun ((hstage0_3 _).read_unread _) _).trans (blk_p2 m c t b s))
    (fun k => (congrFun ((hstage0_4 _).read_unread _) _).trans (blk_g m c t k))
    (fun k => (congrFun ((hstage0_5 _).read_unread _) _).trans (blk_be m c t k))]
  unfold codeAt
  rw [flat_batch, flat_seq]
  rfl

/-- The scales a point leaves. -/
theorem after7_eq (c : Dev nD) (t : Fin cfg0.N) (Y X : Vec Ideal S256x56 .f32) (h : after7 m c t Y X) (r : Fin 256) (j : Fin 56) :
    X (ix2 r j) = scaleAt (inN m c) (inX m c) (inPm m c) (inP2 m c) (inG m c) (inBe m c) (flat t r) j := by
  obtain ⟨Y8, Y9, g11, g12, rfl⟩ := h
  refine (scales_run c (grid0.coords t) _ _ _ _ _ _ _ _ _ _ _ _ _ _ _ _ _ _ _ _ _ _ _ _ _ _ _ _ _ _ _ _ _ _ _ (ix2 r j)).trans ?_
  show scale (rowNorm _ _ _ _ _ _ _ _ _ _ _ _ _ r j) = _
  rw [rowNorm_of (grid0.coords t) _ _ _ _ _ _ _ _ _ _ _ _ (inN m c) (inX m c) (inPm m c) (inP2 m c) (inG m c) (inBe m c)
    ((congrFun ((hstage0_0 _).read_unread _) _).trans (blk_count m c t))
    (fun r ch => (congrFun ((hstage0_1 _).read_unread _) _).trans (blk_x m c t r ch))
    (fun b s => (congrFun ((hstage0_2 _).read_unread _) _).trans (blk_pm m c t b s))
    (fun b s => (congrFun ((hstage0_3 _).read_unread _) _).trans (blk_p2 m c t b s))
    (fun k => (congrFun ((hstage0_4 _).read_unread _) _).trans (blk_g m c t k))
    (fun k => (congrFun ((hstage0_5 _).read_unread _) _).trans (blk_be m c t k))]
  unfold scaleAt
  rw [flat_batch, flat_seq]

/-- What a point's 256 places receive is the whole statistic there, wherever those places lie. -/
theorem put_at (t : Fin cfg0.N) (f : Fin 4 → Fin 4096 → EReal) (u : Fin 256 → EReal) (hu : ∀ r, u r = f (batch (grid0.coords t)) (seqOf (grid0.coords t) r))
    (old : S4x4096.Idx → EReal) (b : Fin 4) (s : Fin 4096) (ho : 16 * b.val + s.val / 256 < t.val → old (ix2 b s) = f b s)
    (hb : 16 * b.val + s.val / 256 ≤ t.val) : put (grid0.coords t) u old (ix2 b s) = f b s := by
  have ht := coord_val t
  have hN : t.val < 64 := t.isLt
  show (if s.val / 256 = (grid0.coords t 0).val % 16 then (if b.val = (grid0.coords t 0).val / 16 then u ⟨s.val % 256, _⟩ else old (ix2 b s)) else old (ix2 b s)) = f b s
  rw [ht]
  split
  · rename_i e1
    split
    · rename_i e0
      rw [hu]
      congr 1
      · refine Fin.ext ?_
        show (grid0.coords t 0).val / 16 = b.val
        omega
      · refine Fin.ext ?_
        show (256 * (grid0.coords t 0).val) % 4096 + s.val % 256 = s.val
        omega
    · exact ho (by omega)
  · exact ho (by omega)

/-- The means a point leaves, over what it found. -/
theorem after8_eq (c : Dev nD) (t : Fin cfg0.N) (Y X : Vec Ideal S4x4096 .f32) (h : after8 m c t Y X) (b : Fin 4) (s : Fin 4096)
    (ho : 16 * b.val + s.val / 256 < t.val → Y (ix2 b s) = meanAt (inN m c) (inX m c) (inPm m c) b s) (hb : 16 * b.val + s.val / 256 ≤ t.val) :
    X (ix2 b s) = meanAt (inN m c) (inX m c) (inPm m c) b s := by
  obtain ⟨Y9, g11, g12, rfl⟩ := h
  refine (means_run c (grid0.coords t) _ _ _ _ _ _ _ _ _ _ _ _ _ _ _ _ _ _ _ _ _ _ _ _ _ _ _ _ _ _ _ _ _ _ (ix2 b s)).trans ?_
  refine put_at t (meanAt (inN m c) (inX m c) (inPm m c)) _ (muRow_of _ _ _ _ _ _ _ _ _ _
    ((congrFun ((hstage0_0 _).read_unread _) _).trans (blk_count m c t))
    (fun r ch => (congrFun ((hstage0_1 _).read_unread _) _).trans (blk_x m c t r ch))
    (fun b s => (congrFun ((hstage0_2 _).read_unread _) _).trans (blk_pm m c t b s))) _ b s (fun hlt => ?_) hb
  exact (congrFun ((hstage0_8 _).read_unread _) _).trans (ho hlt)

/-- The reciprocal deviations a point leaves, over what it found. -/
theorem after9_eq (c : Dev nD) (t : Fin cfg0.N) (Y X : Vec Ideal S4x4096 .f32) (h : after9 m c t Y X) (b : Fin 4) (s : Fin 4096)
    (ho : 16 * b.val + s.val / 256 < t.val → Y (ix2 b s) = rstdAt (inN m c) (inX m c) (inPm m c) (inP2 m c) b s) (hb : 16 * b.val + s.val / 256 ≤ t.val) :
    X (ix2 b s) = rstdAt (inN m c) (inX m c) (inPm m c) (inP2 m c) b s := by
  obtain ⟨Y8, g11, g12, rfl⟩ := h
  refine (rstds_run c (grid0.coords t) _ _ _ _ _ _ _ _ _ _ _ _ _ _ _ _ _ _ _ _ _ _ _ _ _ _ _ _ _ _ _ _ _ _ (ix2 b s)).trans ?_
  refine put_at t (rstdAt (inN m c) (inX m c) (inPm m c) (inP2 m c)) _ (rsRow_of _ _ _ _ _ _ _ _ _ _ _ _ _
    ((congrFun ((hstage0_0 _).read_unread _) _).trans (blk_count m c t))
    (fun r ch => (congrFun ((hstage0_1 _).read_unread _) _).trans (blk_x m c t r ch))
    (fun b s => (congrFun ((hstage0_2 _).read_unread _) _).trans (blk_pm m c t b s))
    (fun b s => (congrFun ((hstage0_3 _).read_unread _) _).trans (blk_p2 m c t b s))) _ b s (fun hlt => ?_) hb
  exact (congrFun ((hstage0_9 _).read_unread _) _).trans (ho hlt)

end Cert.KernelIdeal.Hand

end

end
-- ==== Proof.KernelIdealArrays.lean ====
/- The four result arrays of the kernel after a run, as functions of its six inputs: two written back a block at a time, two carried in
   place from grid point to grid point. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Tactic
public import Idealize.ShloMosaic.Lib.WordCmp
public import Idealize.ShloMosaic.Lib.Pointwise
public import Idealize.ShloMosaic.Lib.Pipeline.ValueKit
public import Idealize.ShloMosaic.Lib.Pipeline.ArrRel
public import proofs.«01_k».proof.Proof.Norm
public import proofs.«01_k».proof.Proof.KernelIdealLanes
public import proofs.«01_k».proof.Proof.KernelIdealRun
public import proofs.«01_k».proof.Proof.KernelIdealQuant
public import proofs.«01_k».proof.Proof.KernelIdealMerge
public import proofs.«01_k».proof.Proof.KernelIdealScales
public import proofs.«01_k».proof.Proof.KernelIdealTile
public import proofs.«01_k».proof.Proof.KernelIdealBody
public import proofs.«01_k».proof.Proof.KernelIdealInputs
public import proofs.«01_k».proof.Proof.KernelIdealPoint

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Cert.Norm
open Idealize.SL.BI.BIBase Idealize.SL.BI.Laws Idealize.SL.ProofMode Idealize.SL.Sem
open Idealize.ShloMosaic.Pipeline (Dat RDat Cfg Window BodyObligation cellOf)

variable (m : (ℓ : Loc nD τ sig) → Buf (Elt Ideal) ℓ) (ρ : Dev nD → PrngReg)

/-! ## The two results written a block at a time -/

section
variable (c : Dev nD) (after : (w : Fin cfg0.W) → Fin cfg0.N → (cfg0.win w).block.Idx → Elt Ideal (cfg0.win w).elt)

theorem codes_final (h : ∀ t, ∃ Y, after6 m c t Y (after 6 t)) :
    ((rdat m c).withAfter after).arrAt 6 cfg0.N = fun j => codeAt (inN m c) (inX m c) (inPm m c) (inP2 m c) (inG m c) (inBe m c) (j 0) (j 1) := by
  refine Dat.arrAt_eq_of_covers _ 6 _ (by decide +kernel) fun t _ y => ?_
  obtain ⟨Y, hY⟩ := h t
  have e := after6_eq m c t Y _ hY (y 0) (y 1)
  have e0 : (win0_6.blk t).view.emb y 0 = flat t (y 0) := Fin.ext (by
    blk_simp [index_codes t]
    show _ = 256 * t.val + (y 0).val
    first | done | omega)
  have e1 : (win0_6.blk t).view.emb y 1 = y 1 := Fin.ext (by
    blk_simp [index_codes t])
  blk_simp
  refine ((congrArg (after 6 t) (eta2k y)).trans e).trans ?_
  rw [e0, e1]

theorem scales_final (h : ∀ t, ∃ Y, after7 m c t Y (after 7 t)) :
    ((rdat m c).withAfter after).arrAt 7 cfg0.N = fun j => scaleAt (inN m c) (inX m c) (inPm m c) (inP2 m c) (inG m c) (inBe m c) (j 0) (j 1) := by
  refine Dat.arrAt_eq_of_covers _ 7 _ (by decide +kernel) fun t _ y => ?_
  obtain ⟨Y, hY⟩ := h t
  have e := after7_eq m c t Y _ hY (y 0) (y 1)
  have e0 : (win0_7.blk t).view.emb y 0 = flat t (y 0) := Fin.ext (by
    blk_simp [index_scales t]
    show _ = 256 * t.val + (y 0).val
    first | done | omega)
  have e1 : (win0_7.blk t).view.emb y 1 = y 1 := Fin.ext (by
    blk_simp [index_scales t])
  blk_simp
  refine ((congrArg (after 7 t) (eta2k y)).trans e).trans ?_
  rw [e0, e1]

end

/-! ## The two results that stay in place -/

theorem fetch_8 (t : Fin cfg0.N) : (cfg0.win 8).fetch t = false := rfl
theorem fetch_9 (t : Fin cfg0.N) : (cfg0.win 9).fetch t = false := rfl

/-- After point `t` the means of all the tokens up to that point's tile are in place. -/
theorem means_upto (c : Dev nD) (k : Nat) : ∀ (hk : k < cfg0.N) (X : Vec Ideal S4x4096 .f32), (rdat m c).Leaves 8 ⟨k, hk⟩ X →
    ∀ (b : Fin 4) (s : Fin 4096), 16 * b.val + s.val / 256 ≤ k → X (ix2 b s) = meanAt (inN m c) (inX m c) (inPm m c) b s := by
  induction k with
  | zero =>
    rintro hk X ⟨Y, _, hY⟩ b s hb
    exact after8_eq m c ⟨0, hk⟩ Y X hY b s (fun h => absurd h (Nat.not_lt_zero _)) hb
  | succ k ih =>
    rintro hk X ⟨Y, hF, hY⟩ b s hb
    refine after8_eq m c ⟨k + 1, hk⟩ Y X hY b s (fun h => ?_) hb
    have hk' : k + 1 < 64 := hk
    rcases ((rdat m c).finds_of_pos (fetch_8 _) (Nat.succ_ne_zero k) Y).mp hF with h1 | h1
    · have := (flush0_8 ⟨k, by omega⟩).mp h1
      have : k % 64 = 63 := this
      omega
    · exact ih (Nat.lt_of_succ_lt hk) Y h1 b s (Nat.lt_succ_iff.mp h)

theorem rstds_upto (c : Dev nD) (k : Nat) : ∀ (hk : k < cfg0.N) (X : Vec Ideal S4x4096 .f32), (rdat m c).Leaves 9 ⟨k, hk⟩ X →
    ∀ (b : Fin 4) (s : Fin 4096), 16 * b.val + s.val / 256 ≤ k → X (ix2 b s) = rstdAt (inN m c) (inX m c) (inPm m c) (inP2 m c) b s := by
  induction k with
  | zero =>
    rintro hk X ⟨Y, _, hY⟩ b s hb
    exact after9_eq m c ⟨0, hk⟩ Y X hY b s (fun h => absurd h (Nat.not_lt_zero _)) hb
  | succ k ih =>
    rintro hk X ⟨Y, hF, hY⟩ b s hb
    refine after9_eq m c ⟨k + 1, hk⟩ Y X hY b s (fun h => ?_) hb
    have hk' : k + 1 < 64 := hk
    rcases ((rdat m c).finds_of_pos (fetch_9 _) (Nat.succ_ne_zero k) Y).mp hF with h1 | h1
    · have := (flush0_9 ⟨k, by omega⟩).mp h1
      have : k % 64 = 63 := this
      omega
    · exact ih (Nat.lt_of_succ_lt hk) Y h1 b s (Nat.lt_succ_iff.mp h)

/-- The last grid point. -/
def tLast : Fin cfg0.N := ⟨63, by decide⟩

section
variable (c : Dev nD) (after : (w : Fin cfg0.W) → Fin cfg0.N → (cfg0.win w).block.Idx → Elt Ideal (cfg0.win w).elt)

theorem means_final (h : (rdat m c).Leaves 8 tLast (after 8 tLast)) :
    ((rdat m c).withAfter after).arrAt 8 cfg0.N = fun j => meanAt (inN m c) (inX m c) (inPm m c) (j 0) (j 1) := by
  refine Dat.arrAt_eq_of_after_last _ 8 tLast (by decide +kernel) _ fun j => ?_
  have hj : (j 1).val < 4096 := (j 1).isLt
  have hj0 : (j 0).val < 4 := (j 0).isLt
  have e := means_upto m c 63 _ _ h (j 0) (j 1) (by omega)
  blk_simp
  exact (congrArg (after 8 tLast) (eta2k j)).trans e

theorem rstds_final (h : (rdat m c).Leaves 9 tLast (after 9 tLast)) :
    ((rdat m c).withAfter after).arrAt 9 cfg0.N = fun j => rstdAt (inN m c) (inX m c) (inPm m c) (inP2 m c) (j 0) (j 1) := by
  refine Dat.arrAt_eq_of_after_last _ 9 tLast (by decide +kernel) _ fun j => ?_
  have hj : (j 1).val < 4096 := (j 1).isLt
  have hj0 : (j 0).val < 4 := (j 0).isLt
  have e := rstds_upto m c 63 _ _ h (j 0) (j 1) (by omega)
  blk_simp
  exact (congrArg (after 9 tLast) (eta2k j)).trans e
end

/-! ## The four arrays after a run -/

theorem arrays_of_post (r : PUnit × MemSt nD τ sig (Elt Ideal)) (h : RDat.FramePost cfg0 (rdat m) (V m) r) (c : Dev nD) :
    r.2.mem ((c.tc : Thread nD τ).loc main_v3_0) = (fun j => codeAt (inN m c) (inX m c) (inPm m c) (inP2 m c) (inG m c) (inBe m c) (j 0) (j 1))
    ∧ r.2.mem ((c.tc : Thread nD τ).loc main_v3_1) = (fun j => scaleAt (inN m c) (inX m c) (inPm m c) (inP2 m c) (inG m c) (inBe m c) (j 0) (j 1))
    ∧ r.2.mem ((c.tc : Thread nD τ).loc main_v3_2) = (fun j => meanAt (inN m c) (inX m c) (inPm m c) (j 0) (j 1))
    ∧ r.2.mem ((c.tc : Thread nD τ).loc main_v3_3) = (fun j => rstdAt (inN m c) (inX m c) (inPm m c) (inP2 m c) (j 0) (j 1)) := by
  obtain ⟨after, hl, ha⟩ := RDat.FramePost.exists_exact h c
  refine ⟨(ha 6).trans (codes_final m c after fun t => ?_), (ha 7).trans (scales_final m c after fun t => ?_),
    (ha 8).trans (means_final m c after (hl 8 tLast ((flush0_8 tLast).mpr rfl))), (ha 9).trans (rstds_final m c after (hl 9 tLast ((flush0_9 tLast).mpr rfl)))⟩
  · obtain ⟨Y, _, hY⟩ := hl 6 t (flush0_6 t)
    exact ⟨Y, hY⟩
  · obtain ⟨Y, _, hY⟩ := hl 7 t (flush0_7 t)
    exact ⟨Y, hY⟩

end Cert.KernelIdeal.Hand

end

end
-- ==== Proof.ReferenceIdealPay.lean ====
/-
  What the reference's payloads hold, entry by entry, over the extended reals.
-/
module

public import proofs.«01_k».proof.Proof.Gen.ReferenceIdeal.Value
public import proofs.«01_k».proof.Proof.Gen.ReferenceIdeal.Skeleton
public import Idealize.ShloMosaic.Lib.Pipeline.FrameBody
public import Idealize.ShloMosaic.Lib.Tactic
public import Idealize.ShloMosaic.Lib.Pointwise
public import proofs.«01_k».proof.Proof.Norm

@[expose] public section

set_option maxRecDepth 16384
set_option maxHeartbeats 4000000

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI Idealize.SL.Sem
open Idealize.ShloMosaic.Pipeline (Dat Cfg Window cellOf)

open Cert.Norm

theorem pay6_apply (v0 : Vec Ideal S4x4096x7168 .bf16) (v10 : Elt Ideal .f32) (v11 : Vec Ideal S1x4x4096 .f32) (b : Fin 4) (s : Fin 4096) :
    k0_pay6 v0 v10 v11 (ix2 b s) = mean v10 (v11 (ix3 0 b s)) (fun c => v0 (ix3 b s c)) := by
  pointwise [k0_pay6, k0_pay5, k0_pay4, k0_pay3, k0_pay2, k0_pay1]
  rfl

theorem pay7_apply (v0 : Vec Ideal S4x4096x7168 .bf16) (v10 : Elt Ideal .f32) (v11 v13 : Vec Ideal S1x4x4096 .f32) (b : Fin 4) (s : Fin 4096) :
    k0_pay7 v0 v10 v11 v13 (ix2 b s) = rstd v10 (v11 (ix3 0 b s)) (v13 (ix3 0 b s)) (fun c => v0 (ix3 b s c)) := by
  pointwise [k0_pay7, k0_pay6, k0_pay5, k0_pay4, k0_pay3, k0_pay2, k0_pay1]
  rfl

/-- A block's largest magnitude over 448. -/
def tArr (y : FVec Ideal S4x4096x56x128 .f32) : FVec Ideal S4x4096x56 .f32 :=
  mulf (multiReduction .maximumf [3] S4x4096x56 (absf y) 0xFF800000#32 reduces_S4x4096x56x128_S4x4096x56 (.inl rfl) rfl)
    (broadcast S4x4096x56 (Scalar.ofBits .f32 0x3B124925#32))

/-- A block's exponent. -/
def eArr (t : FVec Ideal S4x4096x56 .f32) : FVec Ideal S4x4096x56 .f32 :=
  select (andi (cmpf .oge t (broadcast S4x4096x56 (Scalar.ofBits .f32 0x00800000#32))) (cmpf .olt t (broadcast S4x4096x56 (Scalar.ofBits .f32 0x7E800000#32))))
   (addf (floor (divf (log t) (log (broadcast S4x4096x56 (Scalar.ofBits .f32 0x40000000#32))))) (broadcast S4x4096x56 (Scalar.ofBits .f32 0x3F800000#32))) (broadcast S4x4096x56 (Scalar.ofBits .f32 0x00000000#32))

/-- The codes, from the normalised array and the exponents. -/
def codesArr (y : FVec Ideal S4x4096x56x128 .f32) (e : FVec Ideal S4x4096x56 .f32) : FVec Ideal S16384x7168 .fp8e4m3 :=
  shapeCast S16384x7168 (truncf .fp8e4m3 (minimumf (broadcast S4x4096x56x128 (Scalar.ofBits .f32 0x43E00000#32)) (maximumf (broadcast S4x4096x56x128 (Scalar.ofBits .f32 0xC3E00000#32))
    (mulf y (broadcastTo S4x4096x56x128 (shapeCast S4x4096x56x1 (exp2 (subf (broadcast S4x4096x56 (Scalar.ofBits .f32 0x00000000#32)) e)) shapeCasts_S4x4096x56_S4x4096x56x1) broadcasts_S4x4096x56x1_S4x4096x56x128)))) bitsLt_fp8e4m3_f32) shapeCasts_S4x4096x56x128_S16384x7168

theorem pay11_eq (v38 v41 : FVec Ideal S4x4096x7168 .f32) (be : Vec Ideal S7168 .f32) :
    k0_pay11 v38 v41 be = eArr (tArr (k0_pay10 v38 v41 be)) := rfl

theorem pay12_eq (v38 v41 : FVec Ideal S4x4096x7168 .f32) (be : Vec Ideal S7168 .f32) :
    k0_pay12 v38 v41 be = codesArr (k0_pay10 v38 v41 be) (k0_pay11 v38 v41 be) := rfl

theorem amax_apply (y : FVec Ideal S4x4096x56x128 .f32) (b : Fin 4) (s : Fin 4096) (j : Fin 56) :
    multiReduction .maximumf [3] S4x4096x56 (absf y) 0xFF800000#32 reduces_S4x4096x56x128_S4x4096x56 (.inl rfl) rfl (ix3 b s j)
      = Finset.fold max (Ideal.ofBits .f32 4286578688#32) (fun l => FloatOps.absf (F := Ideal) (φ := .f32) (y (ix4 b s j l))) Finset.univ := by
  pointwise []

theorem mulf_const_apply (u : FVec Ideal S4x4096x56 .f32) (w : BitVec 32) (i : S4x4096x56.Idx) :
    mulf u (broadcast S4x4096x56 (Scalar.ofBits .f32 w)) i = (u i : EReal) * Ideal.ofBits .f32 w := rfl

theorem tArr_apply (y : FVec Ideal S4x4096x56x128 .f32) (b : Fin 4) (s : Fin 4096) (j : Fin 56) :
    tArr y (ix3 b s j) = blockT (fun l => y (ix4 b s j l)) := by
  unfold tArr blockT
  rw [mulf_const_apply, amax_apply]

theorem eArr_apply (t : FVec Ideal S4x4096x56 .f32) (b : Fin 4) (s : Fin 4096) (j : Fin 56) :
    eArr t (ix3 b s j) = Cert.Scale.expo (t (ix3 b s j)) := by
  pointwise [eArr, Cert.Scale.expo]
  generalize t (ix3 b s j) = u
  by_cases h1 : Ideal.ofBits FTy.f32 8388608#32 ≤ u
  · by_cases h2 : u < Ideal.ofBits FTy.f32 2122317824#32
    · simp only [h1, h2]; rfl
    · simp only [h1, h2]; rfl
  · by_cases h2 : u < Ideal.ofBits FTy.f32 2122317824#32
    · simp only [h1, h2]; rfl
    · simp only [h1, h2]; rfl

theorem codesArr_apply (y : FVec Ideal S4x4096x56x128 .f32) (e : FVec Ideal S4x4096x56 .f32) (r : Fin 16384) (c : Fin 7168) :
    codesArr y e (ix2 r c) = min (Ideal.ofBits .f32 1138753536#32) (max (Ideal.ofBits .f32 3286237184#32)
      (y (ix4 ⟨r.val / 4096, by omega⟩ ⟨r.val % 4096, by omega⟩ ⟨c.val / 128, by omega⟩ ⟨c.val % 128, by omega⟩)
        * Ideal.exp2 (0 - e (ix3 ⟨r.val / 4096, by omega⟩ ⟨r.val % 4096, by omega⟩ ⟨c.val / 128, by omega⟩)))) := by
  pointwise [codesArr]
  rfl

theorem pay10_apply (v38 : FVec Ideal S4x4096x7168 .f32) (g be : Vec Ideal S7168 .f32) (b : Fin 4) (s : Fin 4096) (j : Fin 56) (l : Fin 128) :
    k0_pay10 v38 (k0_pay9 g) be (ix4 b s j l) = v38 (ix3 b s ⟨j.val * 128 + l.val, by omega⟩) * g (ix1 ⟨j.val * 128 + l.val, by omega⟩) + be (ix1 ⟨j.val * 128 + l.val, by omega⟩) := by
  pointwise [k0_pay10, k0_pay9]

theorem pay8_apply (v0 : Vec Ideal S4x4096x7168 .bf16) (v10 : Elt Ideal .f32) (v11 v13 : Vec Ideal S1x4x4096 .f32) (b : Fin 4) (s : Fin 4096) (c : Fin 7168) :
    k0_pay8 v0 v10 v11 v13 (ix3 b s c) = (v0 (ix3 b s c) - k0_pay6 v0 v10 v11 (ix2 b s)) * k0_pay7 v0 v10 v11 v13 (ix2 b s) := by
  pointwise [k0_pay8, k0_pay1]

theorem rows_apply (v : FVec Ideal S4x4096x56 .f32) (r : Fin 16384) (j : Fin 56) :
    shapeCast S16384x56 v shapeCasts_S4x4096x56_S16384x56 (ix2 r j) = v (ix3 ⟨r.val / 4096, by omega⟩ ⟨r.val % 4096, by omega⟩ j) := by
  pointwise []

theorem exp2_apply (u : FVec Ideal S4x4096x56 .f32) (i : S4x4096x56.Idx) : exp2 u i = Ideal.exp2 (u i) := rfl

theorem pay13_apply (v38 v41 : FVec Ideal S4x4096x7168 .f32) (be : Vec Ideal S7168 .f32) (r : Fin 16384) (j : Fin 56) :
    k0_pay13 v38 v41 be (ix2 r j) = Ideal.exp2 (k0_pay11 v38 v41 be (ix3 ⟨r.val / 4096, by omega⟩ ⟨r.val % 4096, by omega⟩ j)) := by
  unfold k0_pay13
  rw [rows_apply, exp2_apply]

section
variable (v0 : Vec Ideal S4x4096x7168 .bf16) (v10 : Elt Ideal .f32) (v11 v13 : Vec Ideal S1x4x4096 .f32) (g be : Vec Ideal S7168 .f32)

/-- The normalised array. -/
theorem norm_apply (b : Fin 4) (s : Fin 4096) (j : Fin 56) (l : Fin 128) :
    k0_pay10 (k0_pay8 v0 v10 v11 v13) (k0_pay9 g) be (ix4 b s j l)
      = normAt v10 (fun b s c => v0 (ix3 b s c)) (fun b s => v11 (ix3 0 b s)) (fun b s => v13 (ix3 0 b s)) (fun c => g (ix1 c)) (fun c => be (ix1 c)) b s j l := by
  rw [pay10_apply, pay8_apply, pay6_apply, pay7_apply]; rfl

/-- The scales. -/
theorem scale_apply (r : Fin 16384) (j : Fin 56) :
    k0_pay13 (k0_pay8 v0 v10 v11 v13) (k0_pay9 g) be (ix2 r j)
      = scaleAt v10 (fun b s c => v0 (ix3 b s c)) (fun b s => v11 (ix3 0 b s)) (fun b s => v13 (ix3 0 b s)) (fun c => g (ix1 c)) (fun c => be (ix1 c)) r j := by
  rw [pay13_apply, pay11_eq, eArr_apply, tArr_apply]
  simp only [norm_apply]
  rfl

/-- The codes. -/
theorem code_apply (r : Fin 16384) (c : Fin 7168) :
    k0_pay12 (k0_pay8 v0 v10 v11 v13) (k0_pay9 g) be (ix2 r c)
      = codeAt v10 (fun b s c => v0 (ix3 b s c)) (fun b s => v11 (ix3 0 b s)) (fun b s => v13 (ix3 0 b s)) (fun c => g (ix1 c)) (fun c => be (ix1 c)) r c := by
  rw [pay12_eq, codesArr_apply, pay11_eq, eArr_apply, tArr_apply]
  simp only [norm_apply]
  rfl

end

end Cert.ReferenceIdeal.Hand

end

end
-- ==== Proof.ReferenceIdealArrays.lean ====
/-
  The reference's four result arrays, as functions of its six inputs.
-/
module

public import proofs.«01_k».proof.Proof.Gen.ReferenceIdeal.Value
public import proofs.«01_k».proof.Proof.Gen.ReferenceIdeal.Skeleton
public import Idealize.ShloMosaic.Lib.Pipeline.FrameBody
public import Idealize.ShloMosaic.Lib.Tactic
public import Idealize.ShloMosaic.Lib.Pipeline.ValueKit
public import Idealize.ShloMosaic.Lib.Pointwise
public import proofs.«01_k».proof.Proof.ReferenceIdealPay

@[expose] public section

set_option maxRecDepth 16384
set_option maxHeartbeats 4000000

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI Idealize.SL.Sem
open Idealize.ShloMosaic.Pipeline (Dat Cfg Window cellOf)

open Cert.Norm

section
variable (c : Dev nD) (arg0 : Memref sig .tc .vmem S4x4096x7168 .bf16) (harg0 : arg0.IsWhole) (arg1 : Memref sig .tc .smem S1 .f32) (harg1 : arg1.IsWhole) (arg2 : Memref sig .tc .vmem S1x4x4096 .f32) (harg2 : arg2.IsWhole) (arg3 : Memref sig .tc .vmem S1x4x4096 .f32) (harg3 : arg3.IsWhole) (arg4 : Memref sig .tc .vmem S7168 .f32) (harg4 : arg4.IsWhole) (arg5 : Memref sig .tc .vmem S7168 .f32) (harg5 : arg5.IsWhole) (arg6 : Memref sig .tc .vmem S16384x7168 .fp8e4m3) (harg6 : arg6.IsWhole) (arg7 : Memref sig .tc .vmem S16384x56 .f32) (harg7 : arg7.IsWhole) (arg8 : Memref sig .tc .vmem S4x4096 .f32) (harg8 : arg8.IsWhole) (arg9 : Memref sig .tc .vmem S4x4096 .f32) (harg9 : arg9.IsWhole)
    (x0 : Vec Ideal S4x4096x7168 .bf16) (x1 : Vec Ideal S1 .f32) (x2 : Vec Ideal S1x4x4096 .f32) (x3 : Vec Ideal S1x4x4096 .f32) (x4 : Vec Ideal S7168 .f32) (x5 : Vec Ideal S7168 .f32)

/-- The count, as the body loads it. -/
theorem count_eq : View.ld (Val := Elt Ideal) x1 (Rect.unit (s := S1) ![0] S1.size inb_S1_S1_0) (Shape.Idx.first (by decide)) = x1 (ix1 0) := by
  refine congrArg x1 (funext fun a => ?_)
  match a with
  | ⟨0, _⟩ => exact Subsingleton.elim (α := Fin 1) _ _

theorem out6_eq : out0_A_6 (F := Ideal) c arg0 harg0 arg1 harg1 arg2 harg2 arg3 harg3 arg4 harg4 arg5 harg5 arg6 harg6 arg7 harg7 arg8 harg8 arg9 harg9 x0 x1 x2 x3 x4 x5 = k0_pay12 (k0_pay8 x0 (x1 (ix1 0)) x2 x3) (k0_pay9 x4) x5 := by
  frame_out
  exact congrArg (fun n => k0_pay12 (k0_pay8 x0 n x2 x3) (k0_pay9 x4) x5) (count_eq x1)

theorem out7_eq : out0_A_7 (F := Ideal) c arg0 harg0 arg1 harg1 arg2 harg2 arg3 harg3 arg4 harg4 arg5 harg5 arg6 harg6 arg7 harg7 arg8 harg8 arg9 harg9 x0 x1 x2 x3 x4 x5 = k0_pay13 (k0_pay8 x0 (x1 (ix1 0)) x2 x3) (k0_pay9 x4) x5 := by
  frame_out
  exact congrArg (fun n => k0_pay13 (k0_pay8 x0 n x2 x3) (k0_pay9 x4) x5) (count_eq x1)

theorem out8_eq : out0_A_8 (F := Ideal) c arg0 harg0 arg1 harg1 arg2 harg2 arg3 harg3 arg4 harg4 arg5 harg5 arg6 harg6 arg7 harg7 arg8 harg8 arg9 harg9 x0 x1 x2 x3 x4 x5 = k0_pay6 x0 (x1 (ix1 0)) x2 := by
  frame_out
  exact congrArg (fun n => k0_pay6 x0 n x2) (count_eq x1)

theorem out9_eq : out0_A_9 (F := Ideal) c arg0 harg0 arg1 harg1 arg2 harg2 arg3 harg3 arg4 harg4 arg5 harg5 arg6 harg6 arg7 harg7 arg8 harg8 arg9 harg9 x0 x1 x2 x3 x4 x5 = k0_pay7 x0 (x1 (ix1 0)) x2 x3 := by
  frame_out
  exact congrArg (fun n => k0_pay7 x0 n x2 x3) (count_eq x1)

end

variable (m : (ℓ : Loc nD τ sig) → Buf (Elt Ideal) ℓ) (ρ : Dev nD → PrngReg)

/-- The one grid point's blocks are the arrays themselves. -/
theorem index_zero : (∀ a, win0_0.index t0_0 a = 0) ∧ (∀ a, win0_1.index t0_0 a = 0) ∧ (∀ a, win0_2.index t0_0 a = 0)
    ∧ (∀ a, win0_3.index t0_0 a = 0) ∧ (∀ a, win0_4.index t0_0 a = 0) ∧ (∀ a, win0_5.index t0_0 a = 0) := by decide +kernel

theorem iblk0 (c : Dev nD) : iblk (F := Ideal) m c 0 t0_0 = m ((c : Thread nD τ).loc main_arg0) := by
  funext y
  blk_ext [iblk, V, index_zero]

theorem iblk1 (c : Dev nD) : iblk (F := Ideal) m c 1 t0_0 = m ((c : Thread nD τ).loc main_arg1) := by
  funext y
  blk_ext [iblk, V, index_zero]

theorem iblk2 (c : Dev nD) : iblk (F := Ideal) m c 2 t0_0 = m ((c : Thread nD τ).loc main_arg2) := by
  funext y
  blk_ext [iblk, V, index_zero]

theorem iblk3 (c : Dev nD) : iblk (F := Ideal) m c 3 t0_0 = m ((c : Thread nD τ).loc main_arg3) := by
  funext y
  blk_ext [iblk, V, index_zero]

theorem iblk4 (c : Dev nD) : iblk (F := Ideal) m c 4 t0_0 = m ((c : Thread nD τ).loc main_arg4) := by
  funext y
  blk_ext [iblk, V, index_zero]

theorem iblk5 (c : Dev nD) : iblk (F := Ideal) m c 5 t0_0 = m ((c : Thread nD τ).loc main_arg5) := by
  funext y
  blk_ext [iblk, V, index_zero]

theorem final6 (c : Dev nD) : (dats (F := Ideal) m 0 c).arrAt 6 cfg0.N = k0_pay12 (k0_pay8 (m ((c : Thread nD τ).loc main_arg0)) ((m ((c : Thread nD τ).loc main_arg1)) (ix1 0)) (m ((c : Thread nD τ).loc main_arg2)) (m ((c : Thread nD τ).loc main_arg3))) (k0_pay9 (m ((c : Thread nD τ).loc main_arg4))) (m ((c : Thread nD τ).loc main_arg5)) := by
  refine (dats m 0 c).arrAt_eq_of_after_last 6 t0_0 (by decide +kernel) _ fun j => ?_
  blk_simp
  rw [after0_6]
  show ((outsAt0 m c t0_0).1) j = _
  unfold outsAt0
  dsimp only
  rw [out6_eq, iblk0, iblk1, iblk2, iblk3, iblk4, iblk5]

theorem final7 (c : Dev nD) : (dats (F := Ideal) m 0 c).arrAt 7 cfg0.N = k0_pay13 (k0_pay8 (m ((c : Thread nD τ).loc main_arg0)) ((m ((c : Thread nD τ).loc main_arg1)) (ix1 0)) (m ((c : Thread nD τ).loc main_arg2)) (m ((c : Thread nD τ).loc main_arg3))) (k0_pay9 (m ((c : Thread nD τ).loc main_arg4))) (m ((c : Thread nD τ).loc main_arg5)) := by
  refine (dats m 0 c).arrAt_eq_of_after_last 7 t0_0 (by decide +kernel) _ fun j => ?_
  blk_simp
  rw [after0_7]
  show ((outsAt0 m c t0_0).2.1) j = _
  unfold outsAt0
  dsimp only
  rw [out7_eq, iblk0, iblk1, iblk2, iblk3, iblk4, iblk5]

theorem final8 (c : Dev nD) : (dats (F := Ideal) m 0 c).arrAt 8 cfg0.N = k0_pay6 (m ((c : Thread nD τ).loc main_arg0)) ((m ((c : Thread nD τ).loc main_arg1)) (ix1 0)) (m ((c : Thread nD τ).loc main_arg2)) := by
  refine (dats m 0 c).arrAt_eq_of_after_last 8 t0_0 (by decide +kernel) _ fun j => ?_
  blk_simp
  rw [after0_8]
  show ((outsAt0 m c t0_0).2.2.1) j = _
  unfold outsAt0
  dsimp only
  rw [out8_eq, iblk0, iblk1, iblk2]

theorem final9 (c : Dev nD) : (dats (F := Ideal) m 0 c).arrAt 9 cfg0.N = k0_pay7 (m ((c : Thread nD τ).loc main_arg0)) ((m ((c : Thread nD τ).loc main_arg1)) (ix1 0)) (m ((c : Thread nD τ).loc main_arg2)) (m ((c : Thread nD τ).loc main_arg3)) := by
  refine (dats m 0 c).arrAt_eq_of_after_last 9 t0_0 (by decide +kernel) _ fun j => ?_
  blk_simp
  rw [after0_9]
  show ((outsAt0 m c t0_0).2.2.2) j = _
  unfold outsAt0
  dsimp only
  rw [out9_eq, iblk0, iblk1, iblk2, iblk3]

/-- The inputs, by coordinates. -/
abbrev inX (c : Dev nD) : Fin 4 → Fin 4096 → Fin 7168 → EReal := fun b s k => m ((c : Thread nD τ).loc main_arg0) (ix3 b s k)
abbrev inN (c : Dev nD) : EReal := m ((c : Thread nD τ).loc main_arg1) (ix1 0)
abbrev inPm (c : Dev nD) : Fin 4 → Fin 4096 → EReal := fun b s => m ((c : Thread nD τ).loc main_arg2) (ix3 0 b s)
abbrev inP2 (c : Dev nD) : Fin 4 → Fin 4096 → EReal := fun b s => m ((c : Thread nD τ).loc main_arg3) (ix3 0 b s)
abbrev inG (c : Dev nD) : Fin 7168 → EReal := fun k => m ((c : Thread nD τ).loc main_arg4) (ix1 k)
abbrev inBe (c : Dev nD) : Fin 7168 → EReal := fun k => m ((c : Thread nD τ).loc main_arg5) (ix1 k)

theorem eta2 {a b : Nat} (j : (⟨2, ![a, b]⟩ : Shape).Idx) : j = ix2 (j 0) (j 1) := by
  funext d
  match d with
  | ⟨0, _⟩ => rfl
  | ⟨1, _⟩ => rfl

theorem codes_eq (c : Dev nD) : (dats (F := Ideal) m 0 c).arrAt 6 cfg0.N
    = fun j => codeAt (inN m c) (inX m c) (inPm m c) (inP2 m c) (inG m c) (inBe m c) (j 0) (j 1) := by
  rw [final6]; funext j
  exact (congrArg _ (eta2 j)).trans (code_apply _ _ _ _ _ _ (j 0) (j 1))

theorem scales_eq (c : Dev nD) : (dats (F := Ideal) m 0 c).arrAt 7 cfg0.N
    = fun j => scaleAt (inN m c) (inX m c) (inPm m c) (inP2 m c) (inG m c) (inBe m c) (j 0) (j 1) := by
  rw [final7]; funext j
  exact (congrArg _ (eta2 j)).trans (scale_apply _ _ _ _ _ _ (j 0) (j 1))

theorem means_eq (c : Dev nD) : (dats (F := Ideal) m 0 c).arrAt 8 cfg0.N = fun j => meanAt (inN m c) (inX m c) (inPm m c) (j 0) (j 1) := by
  rw [final8]; funext j
  exact (congrArg _ (eta2 j)).trans (pay6_apply _ _ _ (j 0) (j 1))

theorem rstds_eq (c : Dev nD) : (dats (F := Ideal) m 0 c).arrAt 9 cfg0.N = fun j => rstdAt (inN m c) (inX m c) (inPm m c) (inP2 m c) (j 0) (j 1) := by
  rw [final9]; funext j
  exact (congrArg _ (eta2 j)).trans (pay7_apply _ _ _ _ (j 0) (j 1))

end Cert.ReferenceIdeal.Hand
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Value
public import proofs.«01_k».proof.Proof.Gen.ReferenceIdeal.Frame
public import proofs.«01_k».proof.Proof.KernelBody
public import proofs.«01_k».proof.Proof.KernelIdealBody
public import proofs.«01_k».proof.Proof.KernelIdealArrays
public import proofs.«01_k».proof.Proof.ReferenceIdealArrays
public import Idealize.ShloMosaic.Adequacy
public import Idealize.ShloMosaic.Init

@[expose] public section

noncomputable section

namespace Cert.Proof

open Idealize.ShloMosaic Idealize.SL.Sem Cert.Kernel

open Cert.Norm

/-- Kernel and reference, run over the reals on the same six inputs, both end with the four results written in `Norm`. -/
theorem algebraic : @algebraic_KernelIdeal_ReferenceIdeal Cert.KernelIdeal.Gen.facts Cert.ReferenceIdeal.Gen.facts := by
  intro m g m' g' _ hin
  have hX : ∀ c : Dev Cert.KernelIdeal.nD, Cert.ReferenceIdeal.Hand.inX m' c = Cert.KernelIdeal.Hand.inX m c :=
    fun c => funext fun b => funext fun s => funext fun ch => congrFun (hin c).1 (ix3 b s ch)
  have hN : ∀ c : Dev Cert.KernelIdeal.nD, Cert.ReferenceIdeal.Hand.inN m' c = Cert.KernelIdeal.Hand.inN m c :=
    fun c => congrFun (hin c).2.1 (ix1 0)
  have hPm : ∀ c : Dev Cert.KernelIdeal.nD, Cert.ReferenceIdeal.Hand.inPm m' c = Cert.KernelIdeal.Hand.inPm m c :=
    fun c => funext fun b => funext fun s => congrFun (hin c).2.2.1 (ix3 0 b s)
  have hP2 : ∀ c : Dev Cert.KernelIdeal.nD, Cert.ReferenceIdeal.Hand.inP2 m' c = Cert.KernelIdeal.Hand.inP2 m c :=
    fun c => funext fun b => funext fun s => congrFun (hin c).2.2.2.1 (ix3 0 b s)
  have hG : ∀ c : Dev Cert.KernelIdeal.nD, Cert.ReferenceIdeal.Hand.inG m' c = Cert.KernelIdeal.Hand.inG m c :=
    fun c => funext fun ch => congrFun (hin c).2.2.2.2.1 (ix1 ch)
  have hBe : ∀ c : Dev Cert.KernelIdeal.nD, Cert.ReferenceIdeal.Hand.inBe m' c = Cert.KernelIdeal.Hand.inBe m c :=
    fun c => funext fun ch => congrFun (hin c).2.2.2.2.2 (ix1 ch)
  refine ⟨fun c j => codeAt (Cert.KernelIdeal.Hand.inN m c) (Cert.KernelIdeal.Hand.inX m c) (Cert.KernelIdeal.Hand.inPm m c) (Cert.KernelIdeal.Hand.inP2 m c) (Cert.KernelIdeal.Hand.inG m c) (Cert.KernelIdeal.Hand.inBe m c) (j 0) (j 1),
    fun c j => scaleAt (Cert.KernelIdeal.Hand.inN m c) (Cert.KernelIdeal.Hand.inX m c) (Cert.KernelIdeal.Hand.inPm m c) (Cert.KernelIdeal.Hand.inP2 m c) (Cert.KernelIdeal.Hand.inG m c) (Cert.KernelIdeal.Hand.inBe m c) (j 0) (j 1),
    fun c j => meanAt (Cert.KernelIdeal.Hand.inN m c) (Cert.KernelIdeal.Hand.inX m c) (Cert.KernelIdeal.Hand.inPm m c) (j 0) (j 1),
    fun c j => rstdAt (Cert.KernelIdeal.Hand.inN m c) (Cert.KernelIdeal.Hand.inX m c) (Cert.KernelIdeal.Hand.inPm m c) (Cert.KernelIdeal.Hand.inP2 m c) (j 0) (j 1), ?_, ?_⟩
  · refine (θ_run _ _ _).mono (fun r h c => ?_) (Cert.KernelIdeal.Hand.run_main m g)
    obtain ⟨h0, h1, h2, h3⟩ := Cert.KernelIdeal.Hand.arrays_of_post m r h.1 c
    exact ⟨h0, h1, h2, h3, Cert.KernelIdeal.Hand.args_of_post m r h.1 c⟩
  · refine (θ_run _ _ _).mono (fun r h c => ?_) (Cert.ReferenceIdeal.Value.run_blocks m' g')
    obtain ⟨h0, h1, h2, h3, hargs⟩ := h c
    refine ⟨(h0.trans (Cert.ReferenceIdeal.Hand.codes_eq m' c)).trans ?_, (h1.trans (Cert.ReferenceIdeal.Hand.scales_eq m' c)).trans ?_,
      (h2.trans (Cert.ReferenceIdeal.Hand.means_eq m' c)).trans ?_, (h3.trans (Cert.ReferenceIdeal.Hand.rstds_eq m' c)).trans ?_, hargs⟩
    · rw [hN c, hX c, hPm c, hP2 c, hG c, hBe c]; rfl
    · rw [hN c, hX c, hPm c, hP2 c, hG c, hBe c]; rfl
    · rw [hN c, hX c, hPm c]; rfl
    · rw [hN c, hX c, hPm c, hP2 c]; rfl

theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ, fun m ρ _ => Cert.ReferenceIdeal.Gen.frame m ρ,
    trivial, algebraic⟩

end Cert.Proof

end
